-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_well_posed : Cert.Pre_well_posed.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_pre_well_posed (hKernelIdeal := hKernelIdeal) (hReferenceIdeal := hReferenceIdeal) (hPre_well_posed := hPre_well_posed)
-- ==== Pre_well_posed.lean ====
abbrev S4096x1024 : Shape := ⟨2, ![4096, 1024]⟩
abbrev S4096x384 : Shape := ⟨2, ![4096, 384]⟩
abbrev S1024x64 : Shape := ⟨2, ![1024, 64]⟩
abbrev S64 : Shape := ⟨1, ![64]⟩
abbrev S384x64 : Shape := ⟨2, ![384, 64]⟩
abbrev S2 : Shape := ⟨1, ![2]⟩
abbrev S16384x64 : Shape := ⟨2, ![16384, 64]⟩
abbrev S4096x64 : Shape := ⟨2, ![4096, 64]⟩
abbrev S2x524288 : Shape := ⟨2, ![2, 524288]⟩
abbrev S4096x4096 : Shape := ⟨2, ![4096, 4096]⟩
abbrev S_ : Shape := ⟨0, ![]⟩
abbrev S1x64 : Shape := ⟨2, ![1, 64]⟩
abbrev S4096 : Shape := ⟨1, ![4096]⟩
abbrev S4096x1 : Shape := ⟨2, ![4096, 1]⟩
abbrev S64x4096 : Shape := ⟨2, ![64, 4096]⟩
abbrev S4096x11 : Shape := ⟨2, ![4096, 11]⟩
abbrev S4096x10 : Shape := ⟨2, ![4096, 10]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  reducesTo_S4096x64_S4096_d1 : S4096x64.ReducesTo [1] S4096
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  transposes_S4096x64_S64x4096_1_0 : S4096x64.Transposes [1, 0] S64x4096
  sliceFits_S4096x4096_S4096x11 : S4096x4096.Slices (fun _ => 0) S4096x11
  slices_S4096x11_S4096x10_0_0 : S4096x11.Slices ![0, 0] S4096x10
  slices_S4096x11_S4096x10_0_1 : S4096x11.Slices ![0, 1] S4096x10
  reducesTo_S4096x10_S_d0_1 : S4096x10.ReducesTo [0, 1] S_
  dot_S4096x1024_S1024x64_S4096x64_1_0_0_1_n_n_wf : DotDims.WF S4096x1024 S1024x64 S4096x64 [1] [0] [0] [1] [] []
  dot_S4096x64_S64x4096_S4096x4096_1_0_0_1_n_n_wf : DotDims.WF S4096x64 S64x4096 S4096x4096 [1] [0] [0] [1] [] []
  dot_S4096x384_S384x64_S4096x64_1_0_0_1_n_n_wf : DotDims.WF S4096x384 S384x64 S4096x64 [1] [0] [0] [1] [] []

variable [Facts]

def dot_S4096x1024_S1024x64_S4096x64_1_0_0_1_n_n : DotDims S4096x1024 S1024x64 S4096x64 where
  lhsContracting := [1]
  rhsContracting := [0]
  lhsNonContracting := [0]
  rhsNonContracting := [1]
  lhsBatch := []
  rhsBatch := []
  wf := dot_S4096x1024_S1024x64_S4096x64_1_0_0_1_n_n_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S4096x384_S384x64_S4096x64_1_0_0_1_n_n : DotDims S4096x384 S384x64 S4096x64 where
  lhsContracting := [1]
  rhsContracting := [0]
  lhsNonContracting := [0]
  rhsNonContracting := [1]
  lhsBatch := []
  rhsBatch := []
  wf := dot_S4096x384_S384x64_S4096x64_1_0_0_1_n_n_wf
def fn_norm {F : FTy → Type} [FloatOps F] (arg0 : FVec F S4096x64 .f32) : FVec F S4096x1 .f32 :=
  let v0 : FVec F S4096x64 .f32 := mulf arg0 arg0
  let cst : FVec F S_ .f32 := constant S_ .f32 0x00000000#32
  let v1 : FVec F S4096 .f32 := (fun x v => Host.reduceAdd x v reducesTo_S4096x64_S4096_d1 h_S_) v0 cst
  let v2 : FVec F S4096x1 .f32 := broadcastInDim S4096x1 ![0] bcast_S4096_S4096x1_0 v1
  let v3 : FVec F S4096x1 .f32 := Host.sqrt v2
  v3

def fn_part1 {F : FTy → Type} [FloatOps F] (main_arg5 : FVec F S64 .f32) (main_v17 : IVec S_ 1) (main_v18 : FVec F S4096x64 .f32) : IVec S_ 1 :=
  let main_v19 : FVec F S1x64 .f32 := broadcastInDim S1x64 ![1] bcast_S64_S1x64_1 main_arg5
  let main_v20 : FVec F S4096x64 .f32 := broadcastInDim S4096x64 ![0, 1] bcast_S1x64_S4096x64_0_1 main_v19
  let main_v21 : FVec F S4096x64 .f32 := addf main_v18 main_v20
  let main_v22 : FVec F S4096x1 .f32 := fn_norm (F := F) main_v21
  let main_v23 : FVec F S4096x64 .f32 := broadcastInDim S4096x64 ![0, 1] bcast_S4096x1_S4096x64_0_1 main_v22
  let main_v24 : FVec F S4096x64 .f32 := Host.divf main_v21 main_v23
  let main_v25 : FVec F S64x4096 .f32 := (transpose S64x4096 [1, 0] · transposes_S4096x64_S64x4096_1_0) main_v24
  let main_v26 : FVec F S4096x4096 .f32 := (fun l r => Host.dotGeneral dot_S4096x64_S64x4096_S4096x4096_1_0_0_1_n_n none l r) main_v24 main_v25
  let main_values_1 : FVec F S4096x11 .f32 := (fun x => (Host.topK S4096x11 1 (FloatOps.cmpfTotal .gt) x sliceFits_S4096x4096_S4096x11).1) main_v26
  let main_indices_2 : IVec S4096x11 32 := (fun x => (Host.topK S4096x11 1 (FloatOps.cmpfTotal .gt) x sliceFits_S4096x4096_S4096x11).2) main_v26
  let main_v27 : FVec F S4096x10 .f32 := (extractStridedSlice S4096x10 ![0, 0] · slices_S4096x11_S4096x10_0_0) main_values_1
  let main_v28 : FVec F S4096x10 .f32 := (extractStridedSlice S4096x10 ![0, 1] · slices_S4096x11_S4096x10_0_1) main_values_1
  let main_v29 : IVec S4096x10 1 := cmpf .ogt main_v27 main_v28
  let main_c_3 : IVec S_ 1 := constantI S_ 1 1#1
  let main_v30 : IVec S_ 1 := (fun x v => Host.reduce IntOp.andi x v reducesTo_S4096x10_S_d0_1 h_S_) main_v29 main_c_3
  let main_v31 : IVec S_ 1 := andi main_v17 main_v30
  main_v31

def fn {F : FTy → Type} [FloatOps F] (main_arg0 : FVec F S4096x1024 .f32) (main_arg1 : FVec F S4096x384 .f32) (main_arg2 : FVec F S1024x64 .f32) (main_arg3 : FVec F S64 .f32) (main_arg4 : FVec F S384x64 .f32) (main_arg5 : FVec F S64 .f32) (main_arg6 : FVec F S2 .f32) (main_arg7 : FVec F S16384x64 .f32) (main_arg8 : FVec F S4096x64 .f32) (main_arg9 : IVec S2x524288 32) (main_arg10 : FVec F S4096x4096 .f32) (main_arg11 : FVec F S4096x4096 .f32) (main_arg12 : IVec S_ 1) : IVec S_ 1 :=
  let main_v0 : FVec F S4096x64 .f32 := Host.absf main_arg8
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x64 .f32 := (fun l r => Host.dotGeneral dot_S4096x1024_S1024x64_S4096x64_1_0_0_1_n_n none l r) main_arg0 main_arg2
  let main_v5 : FVec F S1x64 .f32 := broadcastInDim S1x64 ![1] bcast_S64_S1x64_1 main_arg3
  let main_v6 : FVec F S4096x64 .f32 := broadcastInDim S4096x64 ![0, 1] bcast_S1x64_S4096x64_0_1 main_v5
  let main_v7 : FVec F S4096x64 .f32 := addf main_v4 main_v6
  let main_v8 : FVec F S4096x1 .f32 := fn_norm (F := F) main_v7
  let main_v9 : FVec F S4096x64 .f32 := broadcastInDim S4096x64 ![0, 1] bcast_S4096x1_S4096x64_0_1 main_v8
  let main_v10 : FVec F S4096x64 .f32 := Host.divf main_v7 main_v9
  let main_v11 : FVec F S64x4096 .f32 := (transpose S64x4096 [1, 0] · transposes_S4096x64_S64x4096_1_0) main_v10
  let main_v12 : FVec F S4096x4096 .f32 := (fun l r => Host.dotGeneral dot_S4096x64_S64x4096_S4096x4096_1_0_0_1_n_n none l r) main_v10 main_v11
  let main_values : FVec F S4096x11 .f32 := (fun x => (Host.topK S4096x11 1 (FloatOps.cmpfTotal .gt) x sliceFits_S4096x4096_S4096x11).1) main_v12
  let main_indices : IVec S4096x11 32 := (fun x => (Host.topK S4096x11 1 (FloatOps.cmpfTotal .gt) x sliceFits_S4096x4096_S4096x11).2) main_v12
  let main_v13 : FVec F S4096x10 .f32 := (extractStridedSlice S4096x10 ![0, 0] · slices_S4096x11_S4096x10_0_0) main_values
  let main_v14 : FVec F S4096x10 .f32 := (extractStridedSlice S4096x10 ![0, 1] · slices_S4096x11_S4096x10_0_1) main_values
  let main_v15 : IVec S4096x10 1 := cmpf .ogt main_v13 main_v14
  let main_c_0 : IVec S_ 1 := constantI S_ 1 1#1
  let main_v16 : IVec S_ 1 := (fun x v => Host.reduce IntOp.andi x v reducesTo_S4096x10_S_d0_1 h_S_) main_v15 main_c_0
  let main_v17 : IVec S_ 1 := andi main_v3 main_v16
  let main_v18 : FVec F S4096x64 .f32 := (fun l r => Host.dotGeneral dot_S4096x384_S384x64_S4096x64_1_0_0_1_n_n none l r) main_arg1 main_arg4
  fn_part1 (F := F) main_arg5 main_v17 main_v18
-- ==== Kernel.lean ====
abbrev S4096x1024 : Shape := ⟨2, ![4096, 1024]⟩
abbrev S4096x384 : Shape := ⟨2, ![4096, 384]⟩
abbrev S1024x64 : Shape := ⟨2, ![1024, 64]⟩
abbrev S64 : Shape := ⟨1, ![64]⟩
abbrev S384x64 : Shape := ⟨2, ![384, 64]⟩
abbrev S2 : Shape := ⟨1, ![2]⟩
abbrev S16384x64 : Shape := ⟨2, ![16384, 64]⟩
abbrev S4096x64 : Shape := ⟨2, ![4096, 64]⟩
abbrev S2x524288 : Shape := ⟨2, ![2, 524288]⟩
abbrev S4096x4096 : Shape := ⟨2, ![4096, 4096]⟩
abbrev S_ : Shape := ⟨0, ![]⟩
abbrev S1 : Shape := ⟨1, ![1]⟩
abbrev S1x64 : Shape := ⟨2, ![1, 64]⟩
abbrev S512x1024 : Shape := ⟨2, ![512, 1024]⟩
abbrev S512x384 : Shape := ⟨2, ![512, 384]⟩
abbrev S512x64 : Shape := ⟨2, ![512, 64]⟩
abbrev S512 : Shape := ⟨1, ![512]⟩
abbrev S512x1 : Shape := ⟨2, ![512, 1]⟩
abbrev S1x2 : Shape := ⟨2, ![1, 2]⟩
abbrev S16x1x256 : Shape := ⟨3, ![16, 1, 256]⟩
abbrev S256x64 : Shape := ⟨2, ![256, 64]⟩
abbrev S256x4096 : Shape := ⟨2, ![256, 4096]⟩
abbrev S1x1x256 : Shape := ⟨3, ![1, 1, 256]⟩
abbrev S256 : Shape := ⟨1, ![256]⟩
abbrev S256x1 : Shape := ⟨2, ![256, 1]⟩
abbrev S1x1 : Shape := ⟨2, ![1, 1]⟩
abbrev S4096 : Shape := ⟨1, ![4096]⟩
abbrev S4096x1 : Shape := ⟨2, ![4096, 1]⟩
abbrev S20480x64 : Shape := ⟨2, ![20480, 64]⟩
abbrev S1x524288 : Shape := ⟨2, ![1, 524288]⟩
abbrev S524288 : Shape := ⟨1, ![524288]⟩
abbrev S20480 : Shape := ⟨1, ![20480]⟩
abbrev S524288x1 : Shape := ⟨2, ![524288, 1]⟩
abbrev S524288x64 : Shape := ⟨2, ![524288, 64]⟩

abbrev nBuf : Space → Nat
  | .hbm => 155
  | .vmem => 34
  | .smem => 2
  | _ => 0

abbrev hbmTy0_0 (i : Nat) : BufTy := match i % 128 with
  | 0 => ⟨S4096x1024, .f32⟩
  | 1 => ⟨S4096x384, .f32⟩
  | 2 => ⟨S1024x64, .f32⟩
  | 3 => ⟨S64, .f32⟩
  | 4 => ⟨S384x64, .f32⟩
  | 5 => ⟨S64, .f32⟩
  | 6 => ⟨S2, .f32⟩
  | 7 => ⟨S16384x64, .f32⟩
  | 8 => ⟨S4096x64, .f32⟩
  | 9 => ⟨S2x524288, .i32⟩
  | 10 => ⟨S4096x4096, .f32⟩
  | 11 => ⟨S4096x4096, .f32⟩
  | 12 => ⟨S_, .i1⟩
  | 13 => ⟨S_, .f32⟩
  | 14 => ⟨S_, .f32⟩
  | 15 => ⟨S_, .f32⟩
  | 16 => ⟨S_, .f32⟩
  | 17 => ⟨S1, .f32⟩
  | 18 => ⟨S2, .f32⟩
  | 19 => ⟨S2, .f32⟩
  | 20 => ⟨S2, .f32⟩
  | 21 => ⟨S_, .f32⟩
  | 22 => ⟨S_, .f32⟩
  | 23 => ⟨S1, .f32⟩
  | 24 => ⟨S2, .f32⟩
  | 25 => ⟨S2, .f32⟩
  | 26 => ⟨S1x64, .f32⟩
  | 27 => ⟨S1x64, .f32⟩
  | 28 => ⟨S4096x64, .f32⟩
  | 29 => ⟨S4096x64, .f32⟩
  | 30 => ⟨S1x2, .f32⟩
  | 31 => ⟨S4096x4096, .f32⟩
  | 32 => ⟨S16x1x256, .f32⟩
  | 33 => ⟨S4096, .f32⟩
  | 34 => ⟨S4096, .f32⟩
  | 35 => ⟨S4096, .f32⟩
  | 36 => ⟨S_, .f32⟩
  | 37 => ⟨S4096, .f32⟩
  | 38 => ⟨S4096, .i1⟩
  | 39 => ⟨S_, .f32⟩
  | 40 => ⟨S_, .f32⟩
  | 41 => ⟨S4096, .f32⟩
  | 42 => ⟨S4096, .f32⟩
  | 43 => ⟨S4096x1, .f32⟩
  | 44 => ⟨S_, .f32⟩
  | 45 => ⟨S4096x1, .f32⟩
  | 46 => ⟨S4096x1, .f32⟩
  | 47 => ⟨S4096x64, .f32⟩
  | 48 => ⟨S4096x64, .f32⟩
  | 49 => ⟨S_, .f32⟩
  | 50 => ⟨S2, .f32⟩
  | 51 => ⟨S2, .f32⟩
  | 52 => ⟨S1x2, .f32⟩
  | 53 => ⟨S16x1x256, .f32⟩
  | 54 => ⟨S4096x64, .f32⟩
  | 55 => ⟨S20480x64, .f32⟩
  | 56 => ⟨S1x524288, .i32⟩
  | 57 => ⟨S524288, .i32⟩
  | 58 => ⟨S1x524288, .i32⟩
  | 59 => ⟨S524288, .i32⟩
  | 60 => ⟨S_, .f32⟩
  | 61 => ⟨S20480, .f32⟩
  | 62 => ⟨S_, .i32⟩
  | 63 => ⟨S524288, .i32⟩
  | 64 => ⟨S524288, .i1⟩
  | 65 => ⟨S_, .i32⟩
  | 66 => ⟨S524288, .i32⟩
  | 67 => ⟨S524288, .i32⟩
  | 68 => ⟨S524288, .i32⟩
  | 69 => ⟨S524288x1, .i32⟩
  | 70 => ⟨S_, .f32⟩
  | 71 => ⟨S524288, .f32⟩
  | 72 => ⟨S20480, .f32⟩
  | 73 => ⟨S_, .f32⟩
  | 74 => ⟨S20480, .f32⟩
  | 75 => ⟨S20480, .f32⟩
  | 76 => ⟨S20480, .f32⟩
  | 77 => ⟨S_, .f32⟩
  | 78 => ⟨S20480, .f32⟩
  | 79 => ⟨S20480, .i1⟩
  | 80 => ⟨S_, .f32⟩
  | 81 => ⟨S_, .f32⟩
  | 82 => ⟨S20480, .f32⟩
  | 83 => ⟨S20480, .f32⟩
  | 84 => ⟨S_, .i32⟩
  | 85 => ⟨S524288, .i32⟩
  | 86 => ⟨S524288, .i1⟩
  | 87 => ⟨S_, .i32⟩
  | 88 => ⟨S524288, .i32⟩
  | 89 => ⟨S524288, .i32⟩
  | 90 => ⟨S524288, .i32⟩
  | 91 => ⟨S524288x1, .i32⟩
  | 92 => ⟨S524288, .f32⟩
  | 93 => ⟨S_, .i32⟩
  | 94 => ⟨S524288, .i32⟩
  | 95 => ⟨S524288, .i1⟩
  | 96 => ⟨S_, .i32⟩
  | 97 => ⟨S524288, .i32⟩
  | 98 => ⟨S524288, .i32⟩
  | 99 => ⟨S524288, .i32⟩
  | 100 => ⟨S524288x1, .i32⟩
  | 101 => ⟨S524288, .f32⟩
  | 102 => ⟨S524288, .f32⟩
  | 103 => ⟨S524288x1, .f32⟩
  | 104 => ⟨S_, .i32⟩
  | 105 => ⟨S524288, .i32⟩
  | 106 => ⟨S524288, .i1⟩
  | 107 => ⟨S_, .i32⟩
  | 108 => ⟨S524288, .i32⟩
  | 109 => ⟨S524288, .i32⟩
  | 110 => ⟨S524288, .i32⟩
  | 111 => ⟨S524288x1, .i32⟩
  | 112 => ⟨S524288x64, .f32⟩
  | 113 => ⟨S524288x64, .f32⟩
  | 114 => ⟨S524288x64, .f32⟩
  | 115 => ⟨S_, .f32⟩
  | 116 => ⟨S20480x64, .f32⟩
  | 117 => ⟨S524288x1, .i32⟩
  | 118 => ⟨S20480x64, .f32⟩
  | 119 => ⟨S20480x64, .f32⟩
  | 120 => ⟨S524288x1, .f32⟩
  | 121 => ⟨S_, .i32⟩
  | 122 => ⟨S524288, .i32⟩
  | 123 => ⟨S524288, .i1⟩
  | 124 => ⟨S_, .i32⟩
  | 125 => ⟨S524288, .i32⟩
  | 126 => ⟨S524288, .i32⟩
  | 127 => ⟨S524288, .i32⟩
  | _ => ⟨S4096x1024, .f32⟩

abbrev hbmTy0_1 (i : Nat) : BufTy := match i % 128 with
  | 0 => ⟨S524288x1, .i32⟩
  | 1 => ⟨S524288x64, .f32⟩
  | 2 => ⟨S524288x64, .f32⟩
  | 3 => ⟨S524288x64, .f32⟩
  | 4 => ⟨S_, .f32⟩
  | 5 => ⟨S20480x64, .f32⟩
  | 6 => ⟨S524288x1, .i32⟩
  | 7 => ⟨S20480x64, .f32⟩
  | 8 => ⟨S20480x64, .f32⟩
  | 9 => ⟨S_, .f32⟩
  | 10 => ⟨S20480x64, .f32⟩
  | 11 => ⟨S20480x64, .f32⟩
  | 12 => ⟨S16384x64, .f32⟩
  | 13 => ⟨S4096x64, .f32⟩
  | 14 => ⟨S4096x64, .f32⟩
  | 15 => ⟨S_, .f32⟩
  | 16 => ⟨S4096, .f32⟩
  | 17 => ⟨S4096x1, .f32⟩
  | 18 => ⟨S4096x1, .f32⟩
  | 19 => ⟨S_, .f32⟩
  | 20 => ⟨S_, .f32⟩
  | 21 => ⟨S4096x1, .f32⟩
  | 22 => ⟨S4096x1, .f32⟩
  | 23 => ⟨S4096x64, .f32⟩
  | 24 => ⟨S4096x64, .f32⟩
  | 25 => ⟨S4096x64, .f32⟩
  | 26 => ⟨S20480x64, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1024x64, .f32⟩
  | .local _ .vmem, ⟨3, _⟩ => ⟨S1x64, .f32⟩
  | .local _ .vmem, ⟨4, _⟩ => ⟨S512x384, .f32⟩
  | .local _ .vmem, ⟨5, _⟩ => ⟨S512x384, .f32⟩
  | .local _ .vmem, ⟨6, _⟩ => ⟨S384x64, .f32⟩
  | .local _ .vmem, ⟨7, _⟩ => ⟨S1x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S256x64, .f32⟩
  | .local _ .vmem, ⟨13, _⟩ => ⟨S256x64, .f32⟩
  | .local _ .vmem, ⟨14, _⟩ => ⟨S4096x64, .f32⟩
  | .local _ .vmem, ⟨15, _⟩ => ⟨S256x64, .f32⟩
  | .local _ .vmem, ⟨16, _⟩ => ⟨S256x64, .f32⟩
  | .local _ .vmem, ⟨17, _⟩ => ⟨S4096x64, .f32⟩
  | .local _ .vmem, ⟨18, _⟩ => ⟨S256x4096, .f32⟩
  | .local _ .vmem, ⟨19, _⟩ => ⟨S256x4096, .f32⟩
  | .local _ .vmem, ⟨20, _⟩ => ⟨S1x1x256, .f32⟩
  | .local _ .vmem, ⟨21, _⟩ => ⟨S1x1x256, .f32⟩
  | .local _ .vmem, ⟨22, _⟩ => ⟨S1x1x256, .f32⟩
  | .local _ .vmem, ⟨23, _⟩ => ⟨S1x1x256, .f32⟩
  | .local _ .vmem, ⟨24, _⟩ => ⟨S256x4096, .f32⟩
  | .local _ .vmem, ⟨25, _⟩ => ⟨S256x4096, .f32⟩
  | .local _ .vmem, ⟨26, _⟩ => ⟨S256x4096, .f32⟩
  | .local _ .vmem, ⟨27, _⟩ => ⟨S256x4096, .f32⟩
  | .local _ .vmem, ⟨28, _⟩ => ⟨S256x4096, .f32⟩
  | .local _ .vmem, ⟨29, _⟩ => ⟨S256x4096, .f32⟩
  | .local _ .vmem, ⟨30, _⟩ => ⟨S4096x64, .f32⟩
  | .local _ .vmem, ⟨31, _⟩ => ⟨S4096x64, .f32⟩
  | .local _ .vmem, ⟨32, _⟩ => ⟨S256x64, .f32⟩
  | .local _ .vmem, ⟨33, _⟩ => ⟨S256x64, .f32⟩
  | .local _ .smem, ⟨0, _⟩ => ⟨S1x2, .f32⟩
  | .local _ .smem, ⟨1, _⟩ => ⟨S1x2, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12_0 : Ref sig .tc := ⟨.hbm, 28, rfl⟩
abbrev main_v12_1 : Ref sig .tc := ⟨.hbm, 29, rfl⟩
abbrev main_v13 : Ref sig .tc := ⟨.hbm, 30, rfl⟩
abbrev main_v14_0 : Ref sig .tc := ⟨.hbm, 31, rfl⟩
abbrev main_v14_1 : Ref sig .tc := ⟨.hbm, 32, rfl⟩
abbrev main_v15 : Ref sig .tc := ⟨.hbm, 33, rfl⟩
abbrev main_v16 : Ref sig .tc := ⟨.hbm, 34, rfl⟩
abbrev main_call0_v0 : Ref sig .tc := ⟨.hbm, 35, rfl⟩
abbrev main_call0_cst : Ref sig .tc := ⟨.hbm, 36, rfl⟩
abbrev main_call0_v1 : Ref sig .tc := ⟨.hbm, 37, rfl⟩
abbrev main_v17 : Ref sig .tc := ⟨.hbm, 38, rfl⟩
abbrev main_cst_2 : Ref sig .tc := ⟨.hbm, 39, rfl⟩
abbrev main_call1_v0 : Ref sig .tc := ⟨.hbm, 40, rfl⟩
abbrev main_call1_v1 : Ref sig .tc := ⟨.hbm, 41, rfl⟩
abbrev main_v18 : Ref sig .tc := ⟨.hbm, 42, rfl⟩
abbrev main_v19 : Ref sig .tc := ⟨.hbm, 43, rfl⟩
abbrev main_cst_3 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_4 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_c : Ref sig .tc := ⟨.hbm, 62, rfl⟩
abbrev main_v35 : Ref sig .tc := ⟨.hbm, 63, rfl⟩
abbrev main_v36 : Ref sig .tc := ⟨.hbm, 64, rfl⟩
abbrev main_c_6 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_cst_8 : Ref sig .tc := ⟨.hbm, 73, rfl⟩
abbrev main_v43 : Ref sig .tc := ⟨.hbm, 74, rfl⟩
abbrev main_v44 : Ref sig .tc := ⟨.hbm, 75, rfl⟩
abbrev main_call2_v0 : Ref sig .tc := ⟨.hbm, 76, rfl⟩
abbrev main_call2_cst : Ref sig .tc := ⟨.hbm, 77, rfl⟩
abbrev main_call2_v1 : Ref sig .tc := ⟨.hbm, 78, rfl⟩
abbrev main_v45 : Ref sig .tc := ⟨.hbm, 79, rfl⟩
abbrev main_cst_9 : Ref sig .tc := ⟨.hbm, 80, rfl⟩
abbrev main_call3_v0 : Ref sig .tc := ⟨.hbm, 81, rfl⟩
abbrev main_call3_v1 : Ref sig .tc := ⟨.hbm, 82, rfl⟩
abbrev main_v46 : Ref sig .tc := ⟨.hbm, 83, rfl⟩
abbrev main_c_10 : Ref sig .tc := ⟨.hbm, 84, rfl⟩
abbrev main_v47 : Ref sig .tc := ⟨.hbm, 85, rfl⟩
abbrev main_v48 : Ref sig .tc := ⟨.hbm, 86, rfl⟩
abbrev main_c_11 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_c_12 : Ref sig .tc := ⟨.hbm, 93, rfl⟩
abbrev main_v54 : Ref sig .tc := ⟨.hbm, 94, rfl⟩
abbrev main_v55 : Ref sig .tc := ⟨.hbm, 95, rfl⟩
abbrev main_c_13 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_c_14 : Ref sig .tc := ⟨.hbm, 104, rfl⟩
abbrev main_v63 : Ref sig .tc := ⟨.hbm, 105, rfl⟩
abbrev main_v64 : Ref sig .tc := ⟨.hbm, 106, rfl⟩
abbrev main_c_15 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_16 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_c_17 : Ref sig .tc := ⟨.hbm, 121, rfl⟩
abbrev main_v77 : Ref sig .tc := ⟨.hbm, 122, rfl⟩
abbrev main_v78 : Ref sig .tc := ⟨.hbm, 123, rfl⟩
abbrev main_c_18 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_cst_19 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_cst_20 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_call4_v0 : Ref sig .tc := ⟨.hbm, 142, rfl⟩
abbrev main_call4_cst : Ref sig .tc := ⟨.hbm, 143, rfl⟩
abbrev main_call4_v1 : Ref sig .tc := ⟨.hbm, 144, rfl⟩
abbrev main_call4_v2 : Ref sig .tc := ⟨.hbm, 145, rfl⟩
abbrev main_v94 : Ref sig .tc := ⟨.hbm, 146, rfl⟩
abbrev main_cst_21 : Ref sig .tc := ⟨.hbm, 147, rfl⟩
abbrev main_call5_v0 : Ref sig .tc := ⟨.hbm, 148, rfl⟩
abbrev main_call5_v1 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg7_1 : Ref sig .tc := ⟨.vmem, 33, rfl⟩
abbrev cc1_stg0_0 : Ref sig .tc := ⟨.smem, 0, rfl⟩
abbrev cc2_stg0_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem5_1 : DmaSem sig := 20
abbrev cc1_sem6_0 : DmaSem sig := 21
abbrev cc1_sem6_1 : DmaSem sig := 22
abbrev cc2_sem0_0 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem6_0 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S384x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .smem S1x2 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S4096x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .smem S1x2 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1x1x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x4096 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S4096x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S4096x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S256x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== ReferenceIdeal.lean ====
abbrev S4096x1024 : Shape := ⟨2, ![4096, 1024]⟩
abbrev S4096x384 : Shape := ⟨2, ![4096, 384]⟩
abbrev S1024x64 : Shape := ⟨2, ![1024, 64]⟩
abbrev S64 : Shape := ⟨1, ![64]⟩
abbrev S384x64 : Shape := ⟨2, ![384, 64]⟩
abbrev S2 : Shape := ⟨1, ![2]⟩
abbrev S16384x64 : Shape := ⟨2, ![16384, 64]⟩
abbrev S4096x64 : Shape := ⟨2, ![4096, 64]⟩
abbrev S2x524288 : Shape := ⟨2, ![2, 524288]⟩
abbrev S4096x4096 : Shape := ⟨2, ![4096, 4096]⟩
abbrev S_ : Shape := ⟨0, ![]⟩
abbrev S1x64 : Shape := ⟨2, ![1, 64]⟩
abbrev S1 : Shape := ⟨1, ![1]⟩
abbrev S4096 : Shape := ⟨1, ![4096]⟩
abbrev S4096x1 : Shape := ⟨2, ![4096, 1]⟩
abbrev S64x4096 : Shape := ⟨2, ![64, 4096]⟩
abbrev S4096x10 : Shape := ⟨2, ![4096, 10]⟩
abbrev S4096x10x1 : Shape := ⟨3, ![4096, 10, 1]⟩
abbrev S4096x10x2 : Shape := ⟨3, ![4096, 10, 2]⟩
abbrev S1x4096 : Shape := ⟨2, ![1, 4096]⟩
abbrev S20480x64 : Shape := ⟨2, ![20480, 64]⟩
abbrev S1x524288 : Shape := ⟨2, ![1, 524288]⟩
abbrev S524288 : Shape := ⟨1, ![524288]⟩
abbrev S20480 : Shape := ⟨1, ![20480]⟩
abbrev S524288x1 : Shape := ⟨2, ![524288, 1]⟩
abbrev S524288x64 : Shape := ⟨2, ![524288, 64]⟩
abbrev S20480x1x64 : Shape := ⟨3, ![20480, 1, 64]⟩
abbrev S20480x3x64 : Shape := ⟨3, ![20480, 3, 64]⟩

abbrev nBuf : Space → Nat
  | .hbm => 243
  | .vmem => 0
  | .smem => 0
  | _ => 0

abbrev hbmTy0_0 (i : Nat) : BufTy := match i % 128 with
  | 0 => ⟨S4096x1024, .f32⟩
  | 1 => ⟨S4096x384, .f32⟩
  | 2 => ⟨S1024x64, .f32⟩
  | 3 => ⟨S64, .f32⟩
  | 4 => ⟨S384x64, .f32⟩
  | 5 => ⟨S64, .f32⟩
  | 6 => ⟨S2, .f32⟩
  | 7 => ⟨S16384x64, .f32⟩
  | 8 => ⟨S4096x64, .f32⟩
  | 9 => ⟨S2x524288, .i32⟩
  | 10 => ⟨S4096x4096, .f32⟩
  | 11 => ⟨S4096x4096, .f32⟩
  | 12 => ⟨S_, .i1⟩
  | 13 => ⟨S4096x64, .f32⟩
  | 14 => ⟨S1x64, .f32⟩
  | 15 => ⟨S4096x64, .f32⟩
  | 16 => ⟨S4096x64, .f32⟩
  | 17 => ⟨S4096x64, .f32⟩
  | 18 => ⟨S1x64, .f32⟩
  | 19 => ⟨S4096x64, .f32⟩
  | 20 => ⟨S4096x64, .f32⟩
  | 21 => ⟨S_, .f32⟩
  | 22 => ⟨S_, .f32⟩
  | 23 => ⟨S_, .f32⟩
  | 24 => ⟨S_, .f32⟩
  | 25 => ⟨S1, .f32⟩
  | 26 => ⟨S2, .f32⟩
  | 27 => ⟨S2, .f32⟩
  | 28 => ⟨S2, .f32⟩
  | 29 => ⟨S_, .f32⟩
  | 30 => ⟨S_, .f32⟩
  | 31 => ⟨S1, .f32⟩
  | 32 => ⟨S2, .f32⟩
  | 33 => ⟨S2, .f32⟩
  | 34 => ⟨S4096x64, .f32⟩
  | 35 => ⟨S_, .f32⟩
  | 36 => ⟨S4096, .f32⟩
  | 37 => ⟨S4096x1, .f32⟩
  | 38 => ⟨S4096x1, .f32⟩
  | 39 => ⟨S4096x64, .f32⟩
  | 40 => ⟨S4096x64, .f32⟩
  | 41 => ⟨S64x4096, .f32⟩
  | 42 => ⟨S4096x4096, .f32⟩
  | 43 => ⟨S4096x10, .f32⟩
  | 44 => ⟨S4096x10, .i32⟩
  | 45 => ⟨S_, .f32⟩
  | 46 => ⟨S4096x4096, .f32⟩
  | 47 => ⟨S4096, .i32⟩
  | 48 => ⟨S4096x1, .i32⟩
  | 49 => ⟨S_, .i32⟩
  | 50 => ⟨S4096x1, .i32⟩
  | 51 => ⟨S4096x1, .i1⟩
  | 52 => ⟨S_, .i32⟩
  | 53 => ⟨S4096x1, .i32⟩
  | 54 => ⟨S4096x1, .i32⟩
  | 55 => ⟨S4096x1, .i32⟩
  | 56 => ⟨S_, .i32⟩
  | 57 => ⟨S4096x10, .i32⟩
  | 58 => ⟨S4096x10, .i1⟩
  | 59 => ⟨S_, .i32⟩
  | 60 => ⟨S4096x10, .i32⟩
  | 61 => ⟨S4096x10, .i32⟩
  | 62 => ⟨S4096x10, .i32⟩
  | 63 => ⟨S4096x10, .i32⟩
  | 64 => ⟨S4096x10x1, .i32⟩
  | 65 => ⟨S4096x10x1, .i32⟩
  | 66 => ⟨S4096x10x2, .i32⟩
  | 67 => ⟨S4096x4096, .f32⟩
  | 68 => ⟨S4096x64, .f32⟩
  | 69 => ⟨S_, .f32⟩
  | 70 => ⟨S4096, .f32⟩
  | 71 => ⟨S4096x1, .f32⟩
  | 72 => ⟨S4096x1, .f32⟩
  | 73 => ⟨S4096x64, .f32⟩
  | 74 => ⟨S4096x64, .f32⟩
  | 75 => ⟨S64x4096, .f32⟩
  | 76 => ⟨S4096x4096, .f32⟩
  | 77 => ⟨S4096x10, .f32⟩
  | 78 => ⟨S4096x10, .i32⟩
  | 79 => ⟨S_, .f32⟩
  | 80 => ⟨S4096x4096, .f32⟩
  | 81 => ⟨S4096, .i32⟩
  | 82 => ⟨S4096x1, .i32⟩
  | 83 => ⟨S_, .i32⟩
  | 84 => ⟨S4096x1, .i32⟩
  | 85 => ⟨S4096x1, .i1⟩
  | 86 => ⟨S_, .i32⟩
  | 87 => ⟨S4096x1, .i32⟩
  | 88 => ⟨S4096x1, .i32⟩
  | 89 => ⟨S4096x1, .i32⟩
  | 90 => ⟨S_, .i32⟩
  | 91 => ⟨S4096x10, .i32⟩
  | 92 => ⟨S4096x10, .i1⟩
  | 93 => ⟨S_, .i32⟩
  | 94 => ⟨S4096x10, .i32⟩
  | 95 => ⟨S4096x10, .i32⟩
  | 96 => ⟨S4096x10, .i32⟩
  | 97 => ⟨S4096x10, .i32⟩
  | 98 => ⟨S4096x10x1, .i32⟩
  | 99 => ⟨S4096x10x1, .i32⟩
  | 100 => ⟨S4096x10x2, .i32⟩
  | 101 => ⟨S4096x4096, .f32⟩
  | 102 => ⟨S1, .f32⟩
  | 103 => ⟨S_, .f32⟩
  | 104 => ⟨S4096x4096, .f32⟩
  | 105 => ⟨S4096x4096, .f32⟩
  | 106 => ⟨S1, .f32⟩
  | 107 => ⟨S_, .f32⟩
  | 108 => ⟨S4096x4096, .f32⟩
  | 109 => ⟨S4096x4096, .f32⟩
  | 110 => ⟨S4096x4096, .f32⟩
  | 111 => ⟨S_, .f32⟩
  | 112 => ⟨S4096, .f32⟩
  | 113 => ⟨S_, .f32⟩
  | 114 => ⟨S4096, .f32⟩
  | 115 => ⟨S4096, .f32⟩
  | 116 => ⟨S4096, .f32⟩
  | 117 => ⟨S_, .f32⟩
  | 118 => ⟨S4096, .f32⟩
  | 119 => ⟨S4096, .i1⟩
  | 120 => ⟨S_, .f32⟩
  | 121 => ⟨S_, .f32⟩
  | 122 => ⟨S4096, .f32⟩
  | 123 => ⟨S4096, .f32⟩
  | 124 => ⟨S4096x1, .f32⟩
  | 125 => ⟨S4096x4096, .f32⟩
  | 126 => ⟨S4096x4096, .f32⟩
  | 127 => ⟨S1x4096, .f32⟩
  | _ => ⟨S4096x1024, .f32⟩

abbrev hbmTy0_1 (i : Nat) : BufTy := match i % 128 with
  | 0 => ⟨S4096x4096, .f32⟩
  | 1 => ⟨S4096x4096, .f32⟩
  | 2 => ⟨S1, .f32⟩
  | 3 => ⟨S_, .f32⟩
  | 4 => ⟨S4096x4096, .f32⟩
  | 5 => ⟨S4096x4096, .f32⟩
  | 6 => ⟨S1, .f32⟩
  | 7 => ⟨S_, .f32⟩
  | 8 => ⟨S4096x4096, .f32⟩
  | 9 => ⟨S4096x4096, .f32⟩
  | 10 => ⟨S4096x4096, .f32⟩
  | 11 => ⟨S_, .f32⟩
  | 12 => ⟨S4096x4096, .f32⟩
  | 13 => ⟨S4096x4096, .f32⟩
  | 14 => ⟨S_, .f32⟩
  | 15 => ⟨S4096x4096, .f32⟩
  | 16 => ⟨S4096x4096, .f32⟩
  | 17 => ⟨S4096x4096, .f32⟩
  | 18 => ⟨S4096x64, .f32⟩
  | 19 => ⟨S20480x64, .f32⟩
  | 20 => ⟨S1x524288, .i32⟩
  | 21 => ⟨S524288, .i32⟩
  | 22 => ⟨S1x524288, .i32⟩
  | 23 => ⟨S524288, .i32⟩
  | 24 => ⟨S_, .f32⟩
  | 25 => ⟨S20480, .f32⟩
  | 26 => ⟨S_, .i32⟩
  | 27 => ⟨S524288, .i32⟩
  | 28 => ⟨S524288, .i1⟩
  | 29 => ⟨S_, .i32⟩
  | 30 => ⟨S524288, .i32⟩
  | 31 => ⟨S524288, .i32⟩
  | 32 => ⟨S524288, .i32⟩
  | 33 => ⟨S524288x1, .i32⟩
  | 34 => ⟨S_, .f32⟩
  | 35 => ⟨S524288, .f32⟩
  | 36 => ⟨S20480, .f32⟩
  | 37 => ⟨S_, .f32⟩
  | 38 => ⟨S20480, .f32⟩
  | 39 => ⟨S20480, .f32⟩
  | 40 => ⟨S_, .i32⟩
  | 41 => ⟨S524288, .i32⟩
  | 42 => ⟨S524288, .i1⟩
  | 43 => ⟨S_, .i32⟩
  | 44 => ⟨S524288, .i32⟩
  | 45 => ⟨S524288, .i32⟩
  | 46 => ⟨S524288, .i32⟩
  | 47 => ⟨S524288x1, .i32⟩
  | 48 => ⟨S524288, .f32⟩
  | 49 => ⟨S_, .i32⟩
  | 50 => ⟨S524288, .i32⟩
  | 51 => ⟨S524288, .i1⟩
  | 52 => ⟨S_, .i32⟩
  | 53 => ⟨S524288, .i32⟩
  | 54 => ⟨S524288, .i32⟩
  | 55 => ⟨S524288, .i32⟩
  | 56 => ⟨S524288x1, .i32⟩
  | 57 => ⟨S524288, .f32⟩
  | 58 => ⟨S524288, .f32⟩
  | 59 => ⟨S524288x1, .f32⟩
  | 60 => ⟨S_, .i32⟩
  | 61 => ⟨S524288, .i32⟩
  | 62 => ⟨S524288, .i1⟩
  | 63 => ⟨S_, .i32⟩
  | 64 => ⟨S524288, .i32⟩
  | 65 => ⟨S524288, .i32⟩
  | 66 => ⟨S524288, .i32⟩
  | 67 => ⟨S524288x1, .i32⟩
  | 68 => ⟨S524288x64, .f32⟩
  | 69 => ⟨S524288x64, .f32⟩
  | 70 => ⟨S524288x64, .f32⟩
  | 71 => ⟨S_, .f32⟩
  | 72 => ⟨S20480x64, .f32⟩
  | 73 => ⟨S524288x1, .i32⟩
  | 74 => ⟨S20480x64, .f32⟩
  | 75 => ⟨S524288x1, .f32⟩
  | 76 => ⟨S_, .i32⟩
  | 77 => ⟨S524288, .i32⟩
  | 78 => ⟨S524288, .i1⟩
  | 79 => ⟨S_, .i32⟩
  | 80 => ⟨S524288, .i32⟩
  | 81 => ⟨S524288, .i32⟩
  | 82 => ⟨S524288, .i32⟩
  | 83 => ⟨S524288x1, .i32⟩
  | 84 => ⟨S524288x64, .f32⟩
  | 85 => ⟨S524288x64, .f32⟩
  | 86 => ⟨S524288x64, .f32⟩
  | 87 => ⟨S_, .f32⟩
  | 88 => ⟨S20480x64, .f32⟩
  | 89 => ⟨S524288x1, .i32⟩
  | 90 => ⟨S20480x64, .f32⟩
  | 91 => ⟨S20480x1x64, .f32⟩
  | 92 => ⟨S20480x1x64, .f32⟩
  | 93 => ⟨S20480x1x64, .f32⟩
  | 94 => ⟨S20480x3x64, .f32⟩
  | 95 => ⟨S_, .f32⟩
  | 96 => ⟨S20480x64, .f32⟩
  | 97 => ⟨S_, .f32⟩
  | 98 => ⟨S20480x64, .f32⟩
  | 99 => ⟨S20480x64, .f32⟩
  | 100 => ⟨S16384x64, .f32⟩
  | 101 => ⟨S4096x64, .f32⟩
  | 102 => ⟨S4096x64, .f32⟩
  | 103 => ⟨S_, .f32⟩
  | 104 => ⟨S4096, .f32⟩
  | 105 => ⟨S4096x1, .f32⟩
  | 106 => ⟨S4096x1, .f32⟩
  | 107 => ⟨S_, .f32⟩
  | 108 => ⟨S_, .f32⟩
  | 109 => ⟨S4096x1, .f32⟩
  | 110 => ⟨S4096x1, .f32⟩
  | 111 => ⟨S4096x64, .f32⟩
  | 112 => ⟨S4096x64, .f32⟩
  | 113 => ⟨S4096x64, .f32⟩
  | 114 => ⟨S20480x64, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call0_v0 : Ref sig .tc := ⟨.hbm, 34, rfl⟩
abbrev main_call0_cst : Ref sig .tc := ⟨.hbm, 35, rfl⟩
abbrev main_call0_v1 : Ref sig .tc := ⟨.hbm, 36, rfl⟩
abbrev main_call0_v2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_values : Ref sig .tc := ⟨.hbm, 43, rfl⟩
abbrev main_indices : Ref sig .tc := ⟨.hbm, 44, rfl⟩
abbrev main_cst_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c : Ref sig .tc := ⟨.hbm, 49, rfl⟩
abbrev main_v26 : Ref sig .tc := ⟨.hbm, 50, rfl⟩
abbrev main_v27 : Ref sig .tc := ⟨.hbm, 51, rfl⟩
abbrev main_c_3 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_4 : Ref sig .tc := ⟨.hbm, 56, rfl⟩
abbrev main_v31 : Ref sig .tc := ⟨.hbm, 57, rfl⟩
abbrev main_v32 : Ref sig .tc := ⟨.hbm, 58, rfl⟩
abbrev main_c_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_call1_v0 : Ref sig .tc := ⟨.hbm, 68, rfl⟩
abbrev main_call1_cst : Ref sig .tc := ⟨.hbm, 69, rfl⟩
abbrev main_call1_v1 : Ref sig .tc := ⟨.hbm, 70, rfl⟩
abbrev main_call1_v2 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_values_6 : Ref sig .tc := ⟨.hbm, 77, rfl⟩
abbrev main_indices_7 : Ref sig .tc := ⟨.hbm, 78, rfl⟩
abbrev main_cst_8 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_c_9 : Ref sig .tc := ⟨.hbm, 83, rfl⟩
abbrev main_v49 : Ref sig .tc := ⟨.hbm, 84, rfl⟩
abbrev main_v50 : Ref sig .tc := ⟨.hbm, 85, rfl⟩
abbrev main_c_10 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_c_11 : Ref sig .tc := ⟨.hbm, 90, rfl⟩
abbrev main_v54 : Ref sig .tc := ⟨.hbm, 91, rfl⟩
abbrev main_v55 : Ref sig .tc := ⟨.hbm, 92, rfl⟩
abbrev main_c_12 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_13 : Ref sig .tc := ⟨.hbm, 111, rfl⟩
abbrev main_v73 : Ref sig .tc := ⟨.hbm, 112, rfl⟩
abbrev main_cst_14 : Ref sig .tc := ⟨.hbm, 113, rfl⟩
abbrev main_v74 : Ref sig .tc := ⟨.hbm, 114, rfl⟩
abbrev main_v75 : Ref sig .tc := ⟨.hbm, 115, rfl⟩
abbrev main_call2_v0 : Ref sig .tc := ⟨.hbm, 116, rfl⟩
abbrev main_call2_cst : Ref sig .tc := ⟨.hbm, 117, rfl⟩
abbrev main_call2_v1 : Ref sig .tc := ⟨.hbm, 118, rfl⟩
abbrev main_v76 : Ref sig .tc := ⟨.hbm, 119, rfl⟩
abbrev main_cst_15 : Ref sig .tc := ⟨.hbm, 120, rfl⟩
abbrev main_call3_v0 : Ref sig .tc := ⟨.hbm, 121, rfl⟩
abbrev main_call3_v1 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_16 : Ref sig .tc := ⟨.hbm, 139, rfl⟩
abbrev main_v93 : Ref sig .tc := ⟨.hbm, 140, rfl⟩
abbrev main_v94 : Ref sig .tc := ⟨.hbm, 141, rfl⟩
abbrev main_cst_17 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_cst_18 : Ref sig .tc := ⟨.hbm, 152, rfl⟩
abbrev main_v104 : Ref sig .tc := ⟨.hbm, 153, rfl⟩
abbrev main_c_19 : Ref sig .tc := ⟨.hbm, 154, rfl⟩
abbrev main_v105 : Ref sig .tc := ⟨.hbm, 155, rfl⟩
abbrev main_v106 : Ref sig .tc := ⟨.hbm, 156, rfl⟩
abbrev main_c_20 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_cst_21 : Ref sig .tc := ⟨.hbm, 162, rfl⟩
abbrev main_v111 : Ref sig .tc := ⟨.hbm, 163, rfl⟩
abbrev main_v112 : Ref sig .tc := ⟨.hbm, 164, rfl⟩
abbrev main_cst_22 : Ref sig .tc := ⟨.hbm, 165, rfl⟩
abbrev main_v113 : Ref sig .tc := ⟨.hbm, 166, rfl⟩
abbrev main_v114 : Ref sig .tc := ⟨.hbm, 167, rfl⟩
abbrev main_c_23 : Ref sig .tc := ⟨.hbm, 168, rfl⟩
abbrev main_v115 : Ref sig .tc := ⟨.hbm, 169, rfl⟩
abbrev main_v116 : Ref sig .tc := ⟨.hbm, 170, rfl⟩
abbrev main_c_24 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_c_25 : Ref sig .tc := ⟨.hbm, 177, rfl⟩
abbrev main_v122 : Ref sig .tc := ⟨.hbm, 178, rfl⟩
abbrev main_v123 : Ref sig .tc := ⟨.hbm, 179, rfl⟩
abbrev main_c_26 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_c_27 : Ref sig .tc := ⟨.hbm, 188, rfl⟩
abbrev main_v131 : Ref sig .tc := ⟨.hbm, 189, rfl⟩
abbrev main_v132 : Ref sig .tc := ⟨.hbm, 190, rfl⟩
abbrev main_c_28 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_cst_29 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_c_30 : Ref sig .tc := ⟨.hbm, 204, rfl⟩
abbrev main_v144 : Ref sig .tc := ⟨.hbm, 205, rfl⟩
abbrev main_v145 : Ref sig .tc := ⟨.hbm, 206, rfl⟩
abbrev main_c_31 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_cst_32 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_cst_33 : Ref sig .tc := ⟨.hbm, 223, rfl⟩
abbrev main_v160 : Ref sig .tc := ⟨.hbm, 224, rfl⟩
abbrev main_cst_34 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_call4_v0 : Ref sig .tc := ⟨.hbm, 230, rfl⟩
abbrev main_call4_cst : Ref sig .tc := ⟨.hbm, 231, rfl⟩
abbrev main_call4_v1 : Ref sig .tc := ⟨.hbm, 232, rfl⟩
abbrev main_call4_v2 : Ref sig .tc := ⟨.hbm, 233, rfl⟩
abbrev main_v165 : Ref sig .tc := ⟨.hbm, 234, rfl⟩
abbrev main_cst_35 : Ref sig .tc := ⟨.hbm, 235, rfl⟩
abbrev main_call5_v0 : Ref sig .tc := ⟨.hbm, 236, rfl⟩
abbrev main_call5_v1 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩

abbrev nD : Nat := 1
abbrev τ : Topo := Topo.v7x

variable {F : FTy → Type} [FloatOps F]
-- ==== Proof.Run.lean ====
module

public import proofs.«01_k».proof.Proof.Gen.KernelIdeal.Frame

/-!
  The kernel's run from the launch to the end, keeping the RESULT as well as the arguments: the result array holds what
  the last segment boundary of the generated certificate (`Gen.W19`) says it holds. The launch set-up is the generated
  frame theorem's, with one more array read out of the final state.
-/

@[expose] public section

set_option maxRecDepth 16384

noncomputable section

namespace Cert.KernelIdeal.Value

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ
set_option backward.isDefEq.respectTransparency.types false in
/-- From any launch memory every run ends, nothing faulting, with the result array at the last boundary's contents and
    every argument array as launched. -/
theorem run : θ_run defs (onTc (τ := τ) (main (F := F))) ⟨m, fun _ => 0, ρ⟩ (fun r => (∀ c : Dev nD,
      r.2.mem ((c.tc : Thread nD τ).loc main_v99) = W19 m ρ c main_v99
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h _ => fun c =>
      ⟨h c _ (mem_uc main_v99 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c)⟩)

end Cert.KernelIdeal.Value
-- ==== Proof.Spec.lean ====
module

public import proofs.«01_k».proof.Proof.Gen.ReferenceIdeal.Run
public import Idealize.ShloMosaic.Lib.Pipeline.ValueKit

/-!
  The mathematics both programs compute, as plain functions of arrays of extended reals: the projected and normalised
  features, their similarities, the ten-nearest-neighbour adjacency, the weighted graph, its normalisation, the item
  embedding, and the two rounds of averaging over the user-item graph. The functions are cut out of the reference, so
  that the reference's arrays are these functions of its arguments by definition (the last section says so); the other
  modules show that the kernel's arrays are the same functions of its arguments.
-/

@[expose] public section

set_option maxRecDepth 16384

noncomputable section

namespace Cert.Spec

open Idealize.ShloMosaic Idealize.ShloMosaic.TcCoe Idealize.SL.Sem
open Cert.ReferenceIdeal Cert.ReferenceIdeal.Gen

/-- The image features projected: `x W + b`. -/
def featI (x : FVec Ideal S4096x1024 .f32) (w : FVec Ideal S1024x64 .f32) (b : FVec Ideal S64 .f32) : FVec Ideal S4096x64 .f32 :=
  addf (Host.dotGeneral dot_S4096x1024_S1024x64_S4096x64_1_0_0_1_n_n none x w) (broadcastInDim S4096x64 ![0, 1] bcast_S1x64_S4096x64_0_1 (broadcastInDim S1x64 ![1] bcast_S64_S1x64_1 b))

/-- The text features projected: `x W + b`. -/
def featT (x : FVec Ideal S4096x384 .f32) (w : FVec Ideal S384x64 .f32) (b : FVec Ideal S64 .f32) : FVec Ideal S4096x64 .f32 :=
  addf (Host.dotGeneral dot_S4096x384_S384x64_S4096x64_1_0_0_1_n_n none x w) (broadcastInDim S4096x64 ![0, 1] bcast_S1x64_S4096x64_0_1 (broadcastInDim S1x64 ![1] bcast_S64_S1x64_1 b))

/-- Every row divided by the root of the sum of its squares. -/
def unit (u : FVec Ideal S4096x64 .f32) : FVec Ideal S4096x64 .f32 :=
  Host.divf u (broadcastInDim S4096x64 ![0, 1] bcast_S4096x1_S4096x64_0_1 (Host.sqrt (broadcastInDim S4096x1 ![0] bcast_S4096_S4096x1_0 (Host.reduceAdd (mulf u u) (constant S_ .f32 0x00000000#32) reducesTo_S4096x64_S4096_d1 h_S_))))

/-- The similarities: every row against every row. -/
def sim (u : FVec Ideal S4096x64 .f32) : FVec Ideal S4096x4096 .f32 :=
  Host.dotGeneral dot_S4096x64_S64x4096_S4096x4096_1_0_0_1_n_n none u (transpose S64x4096 [1, 0] u transposes_S4096x64_S64x4096_1_0)

/-- The two mixing weights: the softmax of the two logits. -/
def soft (p : FVec Ideal S2 .f32) : FVec Ideal S2 .f32 :=
  let e : FVec Ideal S2 .f32 := Host.exp (subf p (broadcastInDim S2 ![0] bcast_S1_S2_0 (broadcastInDim S1 ![] bcast_S_S1 (maximumf (constant S_ .f32 0xFF800000#32) (Host.reduce FloatOps.maximumf p (constant S_ .f32 0xFF800000#32) reducesTo_S2_S_d0 h_S_)))))
  Host.divf e (broadcastInDim S2 ![0] bcast_S1_S2_0 (broadcastInDim S1 ![] bcast_S_S1 (Host.reduceAdd e (constant S_ .f32 0x00000000#32) reducesTo_S2_S_d0 h_S_)))

/-- The first weight. -/
def soft0 (q : FVec Ideal S2 .f32) : FVec Ideal S_ .f32 := shapeCast _ (extractStridedSlice S1 ![0] q slices_S2_S1_0) shapeCasts_S1_S_

/-- The second weight. -/
def soft1 (q : FVec Ideal S2 .f32) : FVec Ideal S_ .f32 := shapeCast _ (extractStridedSlice S1 ![1] q slices_S2_S1_1) shapeCasts_S1_S_

/-- The row numbers, as a column of words. -/
def rows : IVec S4096x1 32 := broadcastInDim S4096x1 ![0] bcast_S4096_S4096x1_0 (iotaInDim S4096 32 0)

/-- The ten greatest entries of every row, and where they are. -/
def top10 (s : FVec Ideal S4096x4096 .f32) : FVec Ideal S4096x10 .f32 × IVec S4096x10 32 :=
  Host.topK S4096x10 1 (FloatOps.cmpfTotal .gt) s sliceFits_S4096x4096_S4096x10

/-- The (row, column) pairs at which the ten greatest entries are stored. -/
def pairs (ix : IVec S4096x10 32) : IVec S4096x10x2 32 :=
  concatenate S4096x10x2 2 [⟨S4096x10x1, (broadcastInDim S4096x10x1 ![0, 1] bcast_S4096x10_S4096x10x1_0_1 (broadcastInDim S4096x10 ![0, 1] bcast_S4096x1_S4096x10_0_1 (select (cmpi .slt rows (broadcastInDim S4096x1 ![] bcast_S_S4096x1 (constantI S_ 32 0#32))) (addi rows (broadcastInDim S4096x1 ![] bcast_S_S4096x1 (constantI S_ 32 4096#32))) rows)))⟩, ⟨S4096x10x1, (broadcastInDim S4096x10x1 ![0, 1] bcast_S4096x10_S4096x10x1_0_1 (select (cmpi .slt ix (broadcastInDim S4096x10 ![] bcast_S_S4096x10 (constantI S_ 32 0#32))) (addi ix (broadcastInDim S4096x10 ![] bcast_S_S4096x10 (constantI S_ 32 4096#32))) ix))⟩] concatenates_S4096x10x1_S4096x10x1_S4096x10x2_d2

/-- The adjacency of the ten nearest neighbours: the ten greatest entries of each row where they stood, zero elsewhere. -/
def adj (s : FVec Ideal S4096x4096 .f32) : FVec Ideal S4096x4096 .f32 :=
  Host.scatter scatter_S4096x4096_S4096x10x2_S4096x10_n_01_01_2 (fun _ b => b) (broadcastInDim S4096x4096 ![] bcast_S_S4096x4096 (constant S_ .f32 0x00000000#32)) (pairs (top10 s).2) (top10 s).1

/-- Two arrays mixed with the two weights. -/
def mix (q : FVec Ideal S2 .f32) (a b : FVec Ideal S4096x4096 .f32) : FVec Ideal S4096x4096 .f32 :=
  addf (mulf (broadcastInDim S4096x4096 ![] bcast_S_S4096x4096 (soft0 q)) a) (mulf (broadcastInDim S4096x4096 ![] bcast_S_S4096x4096 (soft1 q)) b)

/-- The row sums to the power −1/2, an infinity replaced by zero. -/
def dl (w : FVec Ideal S4096x4096 .f32) : FVec Ideal S4096 .f32 :=
  let p : FVec Ideal S4096 .f32 := Host.powf (Host.reduceAdd w (constant S_ .f32 0x00000000#32) reducesTo_S4096x4096_S4096_d1 h_S_) (broadcastInDim S4096 ![] bcast_S_S4096 (constant S_ .f32 0xBF000000#32))
  select (cmpf .oeq (Host.absf p) (broadcastInDim S4096 ![] bcast_S_S4096 (constant S_ .f32 0x7F800000#32))) (broadcastInDim S4096 ![] bcast_S_S4096 (id (constant S_ .f32 0x00000000#32))) p

/-- The item embedding carried over the mixed graph: a tenth of the normalised learned graph plus nine tenths of the mixed
    given graphs, times the embedding. -/
def item (q : FVec Ideal S2 .f32) (w io tx : FVec Ideal S4096x4096 .f32) (e : FVec Ideal S4096x64 .f32) : FVec Ideal S4096x64 .f32 :=
  Host.dotGeneral dot_S4096x4096_S4096x64_S4096x64_1_0_0_1_n_n none (addf (mulf (broadcastInDim S4096x4096 ![] bcast_S_S4096x4096 (constant S_ .f32 0x3DCCCCCD#32)) (mulf (mulf (broadcastInDim S4096x4096 ![0, 1] bcast_S4096x1_S4096x4096_0_1 (broadcastInDim S4096x1 ![0] bcast_S4096_S4096x1_0 (dl w))) w) (broadcastInDim S4096x4096 ![0, 1] bcast_S1x4096_S4096x4096_0_1 (broadcastInDim S1x4096 ![1] bcast_S4096_S1x4096_1 (dl w))))) (mulf (broadcastInDim S4096x4096 ![] bcast_S_S4096x4096 (constant S_ .f32 0x3F666666#32)) (mix q io tx))) e

/-- The users' and the items' embeddings, one above the other. -/
def ego (u : FVec Ideal S16384x64 .f32) (e : FVec Ideal S4096x64 .f32) : FVec Ideal S20480x64 .f32 :=
  concatenate S20480x64 0 [⟨S16384x64, u⟩, ⟨S4096x64, e⟩] concatenates_S16384x64_S4096x64_S20480x64_d0

/-- The edges' first ends. -/
def row (g : IVec S2x524288 32) : IVec S524288 32 :=
  shapeCast _ (extractStridedSlice S1x524288 ![0, 0] g slices_S2x524288_S1x524288_0_0) shapeCasts_S1x524288_S524288

/-- The edges' second ends. -/
def col (g : IVec S2x524288 32) : IVec S524288 32 :=
  shapeCast _ (extractStridedSlice S1x524288 ![1, 0] g slices_S2x524288_S1x524288_1_0) shapeCasts_S1x524288_S524288

/-- Node numbers as a column of indices, a negative one counted from the end. -/
def wrap (r : IVec S524288 32) : IVec S524288x1 32 :=
  broadcastInDim S524288x1 ![0] bcast_S524288_S524288x1_0 (select (cmpi .slt r (broadcastInDim S524288 ![] bcast_S_S524288 (constantI S_ 32 0#32))) (addi r (broadcastInDim S524288 ![] bcast_S_S524288 (constantI S_ 32 20480#32))) r)

/-- The number of edges out of every node. -/
def deg (r : IVec S524288 32) : FVec Ideal S20480 .f32 :=
  Host.scatterAdd scatter_S20480_S524288x1_S524288_n_0_0_1 (broadcastInDim S20480 ![] bcast_S_S20480 (constant S_ .f32 0x00000000#32)) (wrap r) (broadcastInDim S524288 ![] bcast_S_S524288 (constant S_ .f32 0x3F800000#32))

/-- The number of edges out of every node, to the power −1/2. -/
def degInv (r : IVec S524288 32) : FVec Ideal S20480 .f32 :=
  Host.powf (deg r) (broadcastInDim S20480 ![] bcast_S_S20480 (constant S_ .f32 0xBF000000#32))

/-- The weight of every edge: the product of the two ends' values. -/
def edge (d : FVec Ideal S20480 .f32) (r k : IVec S524288 32) : FVec Ideal S524288 .f32 :=
  mulf (Host.gather gather_S20480_S524288x1_S524288_n_0_n_n_0_1_1 d (wrap r)) (Host.gather gather_S20480_S524288x1_S524288_n_0_n_n_0_1_1 d (wrap k))

/-- One round of propagation: every node receives the weighted sum of the nodes with an edge to it. -/
def hop (n : FVec Ideal S524288 .f32) (r k : IVec S524288 32) (x : FVec Ideal S20480x64 .f32) : FVec Ideal S20480x64 .f32 :=
  Host.scatterAdd scatter_S20480x64_S524288x1_S524288x64_1_0_0_1 (broadcastInDim S20480x64 ![] bcast_S_S20480x64 (constant S_ .f32 0x00000000#32)) (broadcastInDim S524288x1 ![0] bcast_S524288_S524288x1_0 k) (mulf (broadcastInDim S524288x64 ![0, 1] bcast_S524288x1_S524288x64_0_1 (broadcastInDim S524288x1 ![0] bcast_S524288_S524288x1_0 n)) (Host.gather gather_S20480x64_S524288x1_S524288x64_1_0_n_n_0_1_164 x (wrap r)))

/-- The mean of three arrays, as the reference takes it: stacked along a new axis, summed over it, divided by three. -/
def mean3 (x y z : FVec Ideal S20480x64 .f32) : FVec Ideal S20480x64 .f32 :=
  Host.divf (Host.reduceAdd (concatenate S20480x3x64 1 [⟨S20480x1x64, (broadcastInDim S20480x1x64 ![0, 2] bcast_S20480x64_S20480x1x64_0_2 x)⟩, ⟨S20480x1x64, (broadcastInDim S20480x1x64 ![0, 2] bcast_S20480x64_S20480x1x64_0_2 y)⟩, ⟨S20480x1x64, (broadcastInDim S20480x1x64 ![0, 2] bcast_S20480x64_S20480x1x64_0_2 z)⟩] concatenates_S20480x1x64_S20480x1x64_S20480x1x64_S20480x3x64_d1) (constant S_ .f32 0x00000000#32) reducesTo_S20480x3x64_S20480x64_d1 h_S_) (broadcastInDim S20480x64 ![] bcast_S_S20480x64 (constant S_ .f32 0x40400000#32))

/-- The item embedding divided by its row norms, a norm below a small constant raised to it. -/
def normed (h : FVec Ideal S4096x64 .f32) : FVec Ideal S4096x64 .f32 :=
  Host.divf h (broadcastInDim S4096x64 ![0, 1] bcast_S4096x1_S4096x64_0_1 (maximumf (broadcastInDim S4096x1 ![] bcast_S_S4096x1 (id (constant S_ .f32 0x2B8CBCCC#32))) (Host.sqrt (broadcastInDim S4096x1 ![0] bcast_S4096_S4096x1_0 (Host.reduceAdd (mulf h h) (constant S_ .f32 0x00000000#32) reducesTo_S4096x64_S4096_d1 h_S_)))))

/-- The result from the averaged embeddings and the item embedding: the users' rows as they are, the items' rows with the
    normalised item embedding added. -/
def close (a : FVec Ideal S20480x64 .f32) (h : FVec Ideal S4096x64 .f32) : FVec Ideal S20480x64 .f32 :=
  concatenate S20480x64 0 [⟨S16384x64, (extractStridedSlice S16384x64 ![0, 0] a slices_S20480x64_S16384x64_0_0)⟩, ⟨S4096x64, (addf (extractStridedSlice S4096x64 ![16384, 0] a slices_S20480x64_S4096x64_16384_0) (normed h))⟩] concatenates_S16384x64_S4096x64_S20480x64_d0

/-- The learned graph: the two adjacencies mixed. -/
def learned (q : FVec Ideal S2 .f32) (ui ut : FVec Ideal S4096x64 .f32) : FVec Ideal S4096x4096 .f32 :=
  mix q (adj (sim ui)) (adj (sim ut))

/-- The whole computation. -/
def result (a0 : FVec Ideal S4096x1024 .f32) (a1 : FVec Ideal S4096x384 .f32) (a2 : FVec Ideal S1024x64 .f32) (a3 : FVec Ideal S64 .f32)
    (a4 : FVec Ideal S384x64 .f32) (a5 : FVec Ideal S64 .f32) (a6 : FVec Ideal S2 .f32) (a7 : FVec Ideal S16384x64 .f32)
    (a8 : FVec Ideal S4096x64 .f32) (a9 : IVec S2x524288 32) (a10 a11 : FVec Ideal S4096x4096 .f32) : FVec Ideal S20480x64 .f32 :=
  let n := edge (degInv (row a9)) (row a9) (col a9)
  let x := ego a7 a8
  let y := hop n (row a9) (col a9) x
  close (mean3 x y (hop n (row a9) (col a9) y))
    (item (soft a6) (learned (soft a6) (unit (featI a0 a2 a3)) (unit (featT a1 a4 a5))) a10 a11 a8)

/-! ## The reference's arrays -/

open Cert.ReferenceIdeal.Value

variable (V : Valuation τ sig (Elt Ideal))

/-- The reference's modal weights. -/
theorem ref_soft : res_main_v17 V = soft (V (Proc.devRef .tc main_arg6)) := rfl

/-- The reference's normalised image features. -/
theorem ref_unitI : res_main_v20 V = unit (featI (V (Proc.devRef .tc main_arg0)) (V (Proc.devRef .tc main_arg2)) (V (Proc.devRef .tc main_arg3))) := rfl

/-- The reference's normalised text features. -/
theorem ref_unitT : res_main_v43 V = unit (featT (V (Proc.devRef .tc main_arg1)) (V (Proc.devRef .tc main_arg4)) (V (Proc.devRef .tc main_arg5))) := rfl

/-- The reference's learned graph. -/
theorem ref_learned : res_main_v72 V = learned (res_main_v17 V) (res_main_v20 V) (res_main_v43 V) := rfl

/-- The reference's item embedding. -/
theorem ref_item : res_main_v98 V = item (res_main_v17 V) (res_main_v72 V) (V (Proc.devRef .tc main_arg10)) (V (Proc.devRef .tc main_arg11)) (V (Proc.devRef .tc main_arg8)) := rfl

/-- The reference's weights of the edges. -/
theorem ref_edge : res_main_v129 V = edge (degInv (row (V (Proc.devRef .tc main_arg9)))) (row (V (Proc.devRef .tc main_arg9))) (col (V (Proc.devRef .tc main_arg9))) := rfl

/-- The reference's first round of propagation. -/
theorem ref_hop : res_main_v142 V = hop (res_main_v129 V) (row (V (Proc.devRef .tc main_arg9))) (col (V (Proc.devRef .tc main_arg9))) (ego (V (Proc.devRef .tc main_arg7)) (V (Proc.devRef .tc main_arg8))) := rfl

/-- The reference's average over no, one and two rounds. -/
theorem ref_mean : res_main_v162 V = mean3 (ego (V (Proc.devRef .tc main_arg7)) (V (Proc.devRef .tc main_arg8))) (res_main_v142 V) (hop (res_main_v129 V) (row (V (Proc.devRef .tc main_arg9))) (col (V (Proc.devRef .tc main_arg9))) (res_main_v142 V)) := rfl

/-- What the reference's run leaves in its result array is the whole computation of its arguments. -/
theorem ref_result :
    concatenate S20480x64 0 [⟨S16384x64, (extractStridedSlice S16384x64 ![0, 0] (res_main_v162 V) slices_S20480x64_S16384x64_0_0)⟩, ⟨S4096x64, (addf (extractStridedSlice S4096x64 ![16384, 0] (res_main_v162 V) slices_S20480x64_S4096x64_16384_0) (Host.divf (res_main_v98 V) (broadcastInDim S4096x64 ![0, 1] bcast_S4096x1_S4096x64_0_1 (maximumf (broadcastInDim S4096x1 ![] bcast_S_S4096x1 (id (constant S_ .f32 0x2B8CBCCC#32))) (Host.sqrt (broadcastInDim S4096x1 ![0] bcast_S4096_S4096x1_0 (Host.reduceAdd (mulf (res_main_v98 V) (res_main_v98 V)) (constant S_ .f32 0x00000000#32) reducesTo_S4096x64_S4096_d1 h_S_)))))))⟩] concatenates_S16384x64_S4096x64_S20480x64_d0
    = result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  unfold result
  rw [← ref_soft, ← ref_unitI, ← ref_unitT, ← ref_learned, ← ref_item, ← ref_edge]
  dsimp only
  rw [← ref_hop, ← ref_mean]
  rfl

end Cert.Spec
-- ==== Proof.TopK.lean ====
module

public import Idealize.ShloMosaic.Lib.Pipeline.ValueKit

/-!
  The k greatest entries of a row found by masking. A round takes the row's greatest entry and puts −∞ in its place; when
  the row's greatest entries are distinct, k rounds remove exactly the k greatest, so the greatest entry left after nine
  rounds is the tenth greatest, and the entries at or above it are exactly the ten greatest.
-/

@[expose] public section

namespace Cert.TopK

open Finset

variable {n : ℕ}

/-- The greatest entry of a row. -/
noncomputable def top (s : Fin n → EReal) : EReal := Finset.univ.fold max ⊥ s

/-- One masking round: every entry at or above the greatest becomes −∞. -/
noncomputable def mask (s : Fin n → EReal) : Fin n → EReal := fun j => if top s ≤ s j then ⊥ else s j

/-- The positions `p` of the `k + 1` greatest entries of `s`, in strictly decreasing order of value: every other position holds
    at most the last of them. -/
structure Leads (k : ℕ) (s : Fin n → EReal) (p : Fin (k + 1) → Fin n) : Prop where
  strict : ∀ i j, i < j → s (p j) < s (p i)
  rest : ∀ j, (∀ i, j ≠ p i) → s j ≤ s (p (Fin.last k))

/-- The greatest entry is any entry that none exceeds. -/
theorem top_eq {s : Fin n → EReal} {a : Fin n} (h : ∀ j, s j ≤ s a) : top s = s a := by
  unfold top
  apply le_antisymm
  · rw [Finset.fold_max_le]; exact ⟨bot_le, fun j _ => h j⟩
  · rw [Finset.le_fold_max]; exact .inr ⟨a, Finset.mem_univ _, le_rfl⟩

/-- The first of the leading entries is the greatest. -/
theorem Leads.le_zero {k : ℕ} {s : Fin n → EReal} {p : Fin (k + 1) → Fin n} (h : Leads k s p) (j : Fin n) : s j ≤ s (p 0) := by
  by_cases hj : ∃ i, j = p i
  · obtain ⟨i, rfl⟩ := hj
    rcases eq_or_lt_of_le (Fin.zero_le i) with e | e
    · rw [← e]
    · exact (h.strict 0 i e).le
  · push Not at hj
    refine (h.rest j hj).trans ?_
    rcases eq_or_lt_of_le (Fin.zero_le (Fin.last k)) with e | e
    · rw [← e]
    · exact (h.strict 0 _ e).le

/-- The greatest entry is the first. -/
theorem Leads.top {k : ℕ} {s : Fin n → EReal} {p : Fin (k + 1) → Fin n} (h : Leads k s p) : top s = s (p 0) := top_eq h.le_zero

/-- A round leaves the other leading entries leading. -/
theorem Leads.mask {k : ℕ} {s : Fin n → EReal} {p : Fin (k + 2) → Fin n} (h : Leads (k + 1) s p) :
    Leads k (mask s) (fun i => p i.succ) ∧ (∀ i : Fin (k + 1), mask s (p i.succ) = s (p i.succ)) := by
  have keep : ∀ i : Fin (k + 1), TopK.mask s (p i.succ) = s (p i.succ) := fun i => by
    unfold TopK.mask
    rw [h.top, if_neg (not_le.mpr (h.strict 0 i.succ (Fin.succ_pos i)))]
  refine ⟨⟨fun i j hij => ?_, fun j hj => ?_⟩, keep⟩
  · show TopK.mask s (p j.succ) < TopK.mask s (p i.succ)
    rw [keep, keep]; exact h.strict _ _ (Fin.succ_lt_succ_iff.mpr hij)
  · show TopK.mask s j ≤ TopK.mask s (p (Fin.last k).succ)
    rw [keep]
    unfold TopK.mask
    split
    · exact bot_le
    · rename_i hlt
      refine h.rest j fun i => ?_
      refine Fin.cases (fun e => hlt ?_) (fun i' => hj i') i
      rw [e, h.top]

/-- After `k` rounds the greatest entry is the last leading one. -/
theorem Leads.top_iterate : ∀ {k : ℕ} {s : Fin n → EReal} {p : Fin (k + 1) → Fin n}, Leads k s p →
    TopK.top (TopK.mask^[k] s) = s (p (Fin.last k))
  | 0, s, p, h => h.top
  | k + 1, s, p, h => by
      rw [Function.iterate_succ_apply, h.mask.1.top_iterate]
      exact h.mask.2 (Fin.last k)

/-- All but the last of the leading entries lead. -/
theorem Leads.init {k : ℕ} {s : Fin n → EReal} {p : Fin (k + 2) → Fin n} (h : Leads (k + 1) s p) : Leads k s (fun i => p i.castSucc) := by
  refine ⟨fun i j hij => h.strict _ _ (Fin.castSucc_lt_castSucc_iff.mpr hij), fun j hj => ?_⟩
  have hl : s (p (Fin.last (k + 1))) ≤ s (p (Fin.last k).castSucc) := (h.strict _ _ (Fin.castSucc_lt_last _)).le
  by_cases e : j = p (Fin.last (k + 1))
  · rw [e]; exact hl
  · exact (h.rest j fun i => Fin.lastCases e (fun i' => hj i') i).trans hl

/-- The entries at or above the next-to-last leading entry are the leading ones before the last. -/
theorem Leads.le_iff {k : ℕ} {s : Fin n → EReal} {p : Fin (k + 2) → Fin n} (h : Leads (k + 1) s p) (j : Fin n) :
    s (p (Fin.last k).castSucc) ≤ s j ↔ ∃ i : Fin (k + 1), j = p i.castSucc := by
  have hl : s (p (Fin.last (k + 1))) < s (p (Fin.last k).castSucc) := h.strict _ _ (Fin.castSucc_lt_last _)
  constructor
  · intro hj
    by_contra hne
    push Not at hne
    have : s j ≤ s (p (Fin.last (k + 1))) := by
      by_cases e : j = p (Fin.last (k + 1))
      · rw [e]
      · exact h.rest j fun i => Fin.lastCases e (fun i' => hne i') i
    exact absurd (hj.trans this) (not_le.mpr hl)
  · rintro ⟨i, rfl⟩
    rcases eq_or_lt_of_le (Fin.le_last i) with e | e
    · rw [e]
    · exact (h.strict _ _ (Fin.castSucc_lt_castSucc_iff.mpr e)).le

/-- The leading entries stand at different places. -/
theorem Leads.injective {k : ℕ} {s : Fin n → EReal} {p : Fin (k + 1) → Fin n} (h : Leads k s p) : Function.Injective p := by
  intro i j e
  rcases lt_trichotomy i j with l | l | l
  · exact absurd (h.strict i j l) (by rw [e]; exact lt_irrefl _)
  · exact l
  · exact absurd (h.strict j i l) (by rw [e]; exact lt_irrefl _)

end Cert.TopK
-- ==== Proof.Sorted.lean ====
module

public import proofs.«01_k».proof.Proof.Spec
public import proofs.«01_k».proof.Proof.TopK
public import Idealize.ShloMosaic.Lib.SortFacts
public import Idealize.ShloMosaic.Lib.ScatterToDense.RefScatter
public import Idealize.ShloMosaic.Lib.Routing.OpsPair

/-!
  The reference's ten nearest neighbours, read through the sorted order of a row: the k-th greatest entry of a row and its
  place are given by one permutation of the row's places. Where the eleven greatest entries of a row are distinct, the
  adjacency is the row with every entry below the tenth greatest replaced by zero.
-/

@[expose] public section

set_option maxRecDepth 16384

noncomputable section

namespace Cert.Spec

open Idealize.ShloMosaic Idealize.ShloMosaic.TcCoe Idealize.SL.Sem
open Cert.ReferenceIdeal Cert.ReferenceIdeal.Gen

/-- The order the sort uses on the places of row `i`: the greater entry first. -/
def before (s : FVec Ideal S4096x4096 .f32) (i : Fin 4096) (k k' : Fin 4096) : Bool :=
  FloatOps.cmpfTotal (F := Ideal) .gt (s (ix2 i k)) (s (ix2 i k')) == 1#1

/-- The place of the `a`-th greatest entry of row `i`. -/
def place (s : FVec Ideal S4096x4096 .f32) (i : Fin 4096) (a : Fin 4096) : Fin 4096 := sortedFrom (before s i) a

/-- The comparison that the sort uses puts the greater entry first. -/
theorem before_iff (s : FVec Ideal S4096x4096 .f32) (i k k' : Fin 4096) : before s i k k' = true ↔ s (ix2 i k') < s (ix2 i k) := by
  unfold before
  show (BitVec.ofBool (decide (s (ix2 i k') < s (ix2 i k))) == 1#1) = true ↔ _
  by_cases h : s (ix2 i k') < s (ix2 i k) <;> simp [h]

/-- The sorted order: a later place holds no greater an entry. -/
theorem place_anti (s : FVec Ideal S4096x4096 .f32) (i a b : Fin 4096) (h : a < b) : s (ix2 i (place s i b)) ≤ s (ix2 i (place s i a)) := by
  have hn := sortedFrom_noInversion (before s i) (before s i)
    (fun x y hxy => by
      rw [before_iff] at hxy
      rw [Bool.eq_false_iff, Ne, before_iff]; exact not_lt.mpr hxy.le)
    (fun x y hxy => hxy)
    (fun x y z hxy hyz => by
      rw [Bool.eq_false_iff, Ne, before_iff] at hxy hyz ⊢
      exact not_lt.mpr ((not_lt.mp hxy).trans (not_lt.mp hyz)))
    a b h
  rw [Bool.eq_false_iff, Ne, before_iff] at hn
  exact not_lt.mp hn

/-- Every column has a place in the sorted row. -/
theorem place_surjective (s : FVec Ideal S4096x4096 .f32) (i : Fin 4096) : Function.Surjective (place s i) := sortedFrom_surjective _

/-- An index of the sorted axis replaced by another. -/
theorem along_eq (i b k : Fin 4096) : (ix2 i b : S4096x4096.Idx).along (1 : Fin 2) k = ix2 i k := by
  funext x
  refine Fin.cases ?_ (fun y => ?_) x
  · exact Function.update_of_ne (by decide) _ _
  · obtain rfl : y = 0 := Subsingleton.elim _ _
    exact Function.update_self _ _ _

/-- The sort's permutation of a row is `place`. -/
theorem sorted_eq (s : FVec Ideal S4096x4096 .f32) (i b : Fin 4096) :
    (fun k k' : Fin 4096 => FloatOps.cmpfTotal (F := Ideal) (φ := .f32) .gt
      (s ((ix2 i b : S4096x4096.Idx).along (1 : Fin 2) k)) (s ((ix2 i b : S4096x4096.Idx).along (1 : Fin 2) k')) == 1#1) = before s i :=
  funext fun k => funext fun k' => congrArg₂ (fun u v => FloatOps.cmpfTotal (F := Ideal) (φ := .f32) .gt (s u) (s v) == 1#1) (along_eq i b k) (along_eq i b k')

/-- The sorted values: the row's entry at its place. -/
theorem sort_val (s : FVec Ideal S4096x4096 .f32) (x : IVec S4096x4096 32) (i b : Fin 4096) :
    (Host.sort2 S4096x4096 1 (fun l r : EReal × BitVec 32 => FloatOps.cmpfTotal (F := Ideal) (φ := .f32) .gt l.1 r.1) s x).1 (ix2 i b) = s (ix2 i (place s i b)) := by
  exact congrArg s ((along_eq i b _).trans (congrArg (ix2 i) (congrArg (fun f => sortedFrom f b) (sorted_eq s i b))))

/-- The sorted companion: its entry at that place. -/
theorem sort_idx (s : FVec Ideal S4096x4096 .f32) (x : IVec S4096x4096 32) (i b : Fin 4096) :
    (Host.sort2 S4096x4096 1 (fun l r : EReal × BitVec 32 => FloatOps.cmpfTotal (F := Ideal) (φ := .f32) .gt l.1 r.1) s x).2 (ix2 i b) = x (ix2 i (place s i b)) := by
  exact congrArg x ((along_eq i b _).trans (congrArg (ix2 i) (congrArg (fun f => sortedFrom f b) (sorted_eq s i b))))

/-- The first columns of an array, read at an index. -/
theorem slice_at {α : Type} (n : ℕ) (hn : n ≤ 4096) (x : S4096x4096.Idx → α) (h : S4096x4096.Slices (fun _ => 0) ⟨2, ![4096, n]⟩) (i : Fin 4096) (a : Fin n) :
    extractStridedSlice ⟨2, ![4096, n]⟩ (fun _ => 0) x h (ix2 i a) = x (ix2 i ⟨a.1, lt_of_lt_of_le a.2 hn⟩) := by
  unfold extractStridedSlice
  refine congrArg x (funext fun y => ?_)
  refine Fin.cases ?_ (fun z => ?_) y
  · exact Fin.ext (Nat.zero_add _)
  · obtain rfl : z = 0 := Subsingleton.elim _ _
    exact Fin.ext (Nat.zero_add _)

/-- An entry of the sorted row, at any number of entries kept. -/
theorem topK_val (n : ℕ) (hn : n ≤ 4096) (s : FVec Ideal S4096x4096 .f32) (h : S4096x4096.Slices (fun _ => 0) ⟨2, ![4096, n]⟩) (i : Fin 4096) (a : Fin n) :
    (Host.topK ⟨2, ![4096, n]⟩ 1 (FloatOps.cmpfTotal (F := Ideal) (φ := .f32) .gt) s h).1 (ix2 i a) = s (ix2 i (place s i ⟨a.1, lt_of_lt_of_le a.2 hn⟩)) := by
  unfold Host.topK
  dsimp only
  rw [slice_at n hn]
  exact sort_val s _ i _

/-- The place of an entry of the sorted row, as a word. -/
theorem topK_idx (n : ℕ) (hn : n ≤ 4096) (s : FVec Ideal S4096x4096 .f32) (h : S4096x4096.Slices (fun _ => 0) ⟨2, ![4096, n]⟩) (i : Fin 4096) (a : Fin n) :
    (Host.topK ⟨2, ![4096, n]⟩ 1 (FloatOps.cmpfTotal (F := Ideal) (φ := .f32) .gt) s h).2 (ix2 i a) = BitVec.ofNat 32 (place s i ⟨a.1, lt_of_lt_of_le a.2 hn⟩).1 := by
  unfold Host.topK
  dsimp only
  rw [slice_at n hn]
  exact sort_idx s _ i _

/-- The places of the eleven greatest entries of row `i`. -/
def lead (s : FVec Ideal S4096x4096 .f32) (i : Fin 4096) (a : Fin 11) : Fin 4096 := place s i ⟨a.1, lt_of_lt_of_le a.2 (by decide)⟩

/-- When the eleven greatest entries of the row decrease strictly, they lead it. -/
theorem lead_leads (s : FVec Ideal S4096x4096 .f32) (i : Fin 4096)
    (h : ∀ a : Fin 10, s (ix2 i (lead s i a.succ)) < s (ix2 i (lead s i a.castSucc))) : TopK.Leads 10 (fun j => s (ix2 i j)) (lead s i) := by
  refine ⟨fun a b hab => ?_, fun j hj => ?_⟩
  · exact (Fin.strictAnti_iff_succ_lt.mpr h : StrictAnti fun a : Fin 11 => s (ix2 i (lead s i a))) hab
  · obtain ⟨b, rfl⟩ := place_surjective s i j
    by_cases hb : b.1 < 11
    · exact absurd rfl (hj ⟨b.1, hb⟩)
    · exact place_anti s i _ b (by rw [Fin.lt_def]; show 10 < b.1; omega)

/-- The last of the candidates written, when the candidates stand at distinct places. -/
theorem GS_places (N : ℕ) (p : ℕ → ℕ) (hp : ∀ a b, a < N → b < N → p a = p b → a = b) (hlt : ∀ a, a < N → p a < 4096) (v : ℕ → EReal) (f : EReal) (col : ℕ) :
    ∀ n, n ≤ N → (∀ a, a < n → col = p a → ScatterToDense.GS (fun a => BitVec.ofNat 32 (p a)) v f col n = v a)
      ∧ ((∀ a, a < n → col ≠ p a) → ScatterToDense.GS (fun a => BitVec.ofNat 32 (p a)) v f col n = f) := by
  intro n
  induction n with
  | zero => exact fun _ => ⟨fun a h => absurd h (Nat.not_lt_zero a), fun _ => ScatterToDense.GS_zero⟩
  | succ n ih =>
      intro hN
      obtain ⟨ih1, ih2⟩ := ih (Nat.le_of_succ_le hN)
      have hn : (BitVec.ofNat 32 (p n)).toNat = p n := by
        rw [BitVec.toNat_ofNat]; exact Nat.mod_eq_of_lt ((hlt n hN).trans (by decide))
      rw [ScatterToDense.GS_succ, hn]
      refine ⟨fun a ha hc => ?_, fun hc => ?_⟩
      · by_cases e : col = p n
        · rw [if_pos e, hp a n (lt_of_lt_of_le ha hN) hN (hc.symm.trans e)]
        · rw [if_neg e]
          refine ih1 a (lt_of_le_of_ne (Nat.lt_succ_iff.mp ha) fun h => e (h ▸ hc)) hc
      · rw [if_neg (hc n (Nat.lt_succ_self n))]
        exact ih2 fun a ha => hc a (Nat.lt_succ_of_lt ha)

/-- The place of the `a`-th greatest entry of row `i`, `a` any number. -/
def placeN (s : FVec Ideal S4096x4096 .f32) (i : Fin 4096) (a : ℕ) : ℕ := if h : a < 4096 then (place s i ⟨a, h⟩).1 else 0

/-- A place is a column. -/
theorem placeN_lt (s : FVec Ideal S4096x4096 .f32) (i : Fin 4096) (a : ℕ) : placeN s i a < 4096 := by
  unfold placeN; split
  · exact (place s i _).2
  · decide

/-- Below 4096 the totalised place is the place. -/
theorem placeN_of (s : FVec Ideal S4096x4096 .f32) (i : Fin 4096) (a : ℕ) (h : a < 4096) : placeN s i a = (place s i ⟨a, h⟩).1 := dif_pos h

/-- The first coordinate of a scattered pair is its row. -/
theorem pairs_row (ix : IVec S4096x10 32) (i : Fin 4096) (k : Fin 10) : pairs ix (ix3 i k (0 : Fin 2)) = BitVec.ofNat 32 i.val := by
  pointwise [pairs, rows]
  exact Routing.wrap_of_lt _ _ (by rw [BitVec.toNat_ofNat]; have := i.2; omega)

/-- The second coordinate of a scattered pair is the index found by the sort. -/
theorem pairs_col (ix : IVec S4096x10 32) (i : Fin 4096) (k : Fin 10) (h : (ix (ix2 i k)).toNat < 2 ^ 31) : pairs ix (ix3 i k (1 : Fin 2)) = ix (ix2 i k) := by
  pointwise [pairs, rows]
  exact Routing.wrap_of_lt _ _ h

/-- The array that is scattered into is zero. -/
theorem zeros_at (i j : Fin 4096) : broadcastInDim S4096x4096 ![] bcast_S_S4096x4096 (constant (F := Ideal) S_ .f32 0x00000000#32) (ix2 i j) = (0 : EReal) := by
  pointwise []

/-- The adjacency as the scatter's last hit. -/
theorem adj_GS (s : FVec Ideal S4096x4096 .f32) (i j : Fin 4096) :
    adj s (ix2 i j) = ScatterToDense.GS (fun a => BitVec.ofNat 32 (placeN s i a)) (fun a => s (ix2 i ⟨placeN s i a, placeN_lt s i a⟩)) 0 j.val 10 := by
  have h := ScatterToDense.scatter_eq_GS scatter_S4096x4096_S4096x10x2_S4096x10_n_01_01_2 rfl rfl rfl (by decide) (by decide)
    (broadcastInDim S4096x4096 ![] bcast_S_S4096x4096 (constant (F := Ideal) S_ .f32 0x00000000#32)) (pairs (top10 s).2) (top10 s).1
    (fun i a => BitVec.ofNat 32 (placeN s i a)) (fun i a => s (ix2 i ⟨placeN s i a, placeN_lt s i a⟩))
    (fun i k => pairs_row _ i k)
    (fun i k => by
      have hk : k.1 < 4096 := k.2.trans (by decide)
      have e : (top10 s).2 (ix2 i k) = BitVec.ofNat 32 (placeN s i k.1) := by
        rw [placeN_of s i k.1 hk]; exact topK_idx 10 (by decide) s _ i k
      exact (pairs_col _ i k (by rw [e, BitVec.toNat_ofNat]; have := placeN_lt s i k.1; omega)).trans e)
    (fun i k => by
      have hk : k.1 < 4096 := k.2.trans (by decide)
      refine (topK_val 10 (by decide) s _ i k).trans (congrArg (fun z => s (ix2 i z)) (Fin.ext (placeN_of s i k.1 hk).symm))) i j
  exact h.trans (congrArg (fun f => ScatterToDense.GS (fun a => BitVec.ofNat 32 (placeN s i a)) (fun a => s (ix2 i ⟨placeN s i a, placeN_lt s i a⟩)) f j.val 10) (zeros_at i j))

/-- The adjacency where the eleven greatest entries of the row lead it: the entries at or above the tenth, zero elsewhere. -/
theorem adj_at (s : FVec Ideal S4096x4096 .f32) (i j : Fin 4096) (h : TopK.Leads 10 (fun j => s (ix2 i j)) (lead s i)) :
    adj s (ix2 i j) = if TopK.top (TopK.mask^[9] fun j => s (ix2 i j)) ≤ s (ix2 i j) then s (ix2 i j) else 0 := by
  have hp : ∀ a (ha : a < 10), (⟨placeN s i a, placeN_lt s i a⟩ : Fin 4096) = lead s i (⟨a, ha⟩ : Fin 10).castSucc :=
    fun a ha => Fin.ext (placeN_of s i a (ha.trans (by decide)))
  obtain ⟨g1, g2⟩ := GS_places 10 (placeN s i)
    (fun a b ha hb e => by
      have : lead s i (⟨a, ha⟩ : Fin 10).castSucc = lead s i (⟨b, hb⟩ : Fin 10).castSucc := by
        rw [← hp a ha, ← hp b hb]; exact Fin.ext e
      have := h.injective this
      exact congrArg (fun x : Fin 11 => x.1) this)
    (fun a _ => placeN_lt s i a) (fun a => s (ix2 i ⟨placeN s i a, placeN_lt s i a⟩)) 0 j.val 10 le_rfl
  rw [adj_GS, h.init.top_iterate]
  have hle := h.le_iff j
  by_cases e : ∃ a : Fin 10, j = lead s i a.castSucc
  · rw [if_pos (hle.mpr e)]
    obtain ⟨a, ha⟩ := e
    have hj : (⟨placeN s i a.1, placeN_lt s i a.1⟩ : Fin 4096) = j := (hp a.1 a.2).trans ha.symm
    rw [g1 a.1 a.2 (congrArg Fin.val hj.symm), hj]
  · rw [if_neg (fun hh => e (hle.mp hh))]
    refine g2 fun a ha hc => e ⟨⟨a, ha⟩, ?_⟩
    rw [← hp a ha]; exact Fin.ext hc

end Cert.Spec
-- ==== Proof.Law.lean ====
module

public import Idealize.ShloMosaic.Lib.Pipeline.ValueKit
public import Mathlib.Analysis.SpecialFunctions.Pow.Real

/-!
  The two laws of the extended reals the proof rests on. The first: `x` to the power −1/2 and the reciprocal root of `x`, each
  with its infinities replaced by zero, are the same at every extended real. The second: a weighted sum over the graph
  may be taken term by term, the normalised learned part apart from the given part, when the embedding is finite.
-/

@[expose] public section

namespace Cert.Law

open Idealize.ShloMosaic Finset

/-! ## Constants -/

/-- The word of −∞ reads as the least extended real. -/
theorem neg_inf : Ideal.ofBits .f32 0xFF800000#32 = ⊥ := by simp [Ideal.ofBits, Ideal.ieee]

/-- The word of ∞ reads as the greatest extended real. -/
theorem pos_inf : Ideal.ofBits .f32 0x7F800000#32 = ⊤ := by simp [Ideal.ofBits, Ideal.ieee]

/-- The word of −1/2 reads as −1/2. -/
theorem neg_half : Ideal.ofBits .f32 0xBF000000#32 = ((-(1 / 2) : ℝ) : EReal) := by
  simp [Ideal.ofBits, Ideal.ieee, -EReal.coe_mul, -EReal.coe_neg]; norm_num

/-- The weight of the learned graph is a nonnegative real. -/
theorem tenth : ∃ r : ℝ, 0 ≤ r ∧ Ideal.ofBits .f32 0x3DCCCCCD#32 = (r : EReal) := by
  refine ⟨13421773 * (2 : ℝ) ^ (-27 : ℤ), by positivity, ?_⟩
  simp [Ideal.ofBits, Ideal.ieee, -EReal.coe_mul]

/-- The weight of the given graphs is a nonnegative real. -/
theorem ninth : ∃ r : ℝ, 0 ≤ r ∧ Ideal.ofBits .f32 0x3F666666#32 = (r : EReal) := by
  refine ⟨15099494 * (2 : ℝ) ^ (-24 : ℤ), by positivity, ?_⟩
  simp [Ideal.ofBits, Ideal.ieee, -EReal.coe_mul]

/-! ## The inverse root -/

/-- `x` to the power −1/2, an infinity replaced by zero. -/
noncomputable def inv (x : EReal) : EReal :=
  let p := Ideal.pow x (Ideal.ofBits .f32 0xBF000000#32)
  if max p (-p) = ⊤ then 0 else p

/-- The real power −1/2 of a negative number is zero. -/
theorem rpow_neg (r : ℝ) (h : r < 0) : Real.rpow r (-(1 / 2)) = 0 := by
  show r ^ (-(1 / 2) : ℝ) = 0
  rw [Real.rpow_def_of_neg h, show (-(1 / 2) : ℝ) * Real.pi = -(Real.pi / 2) by ring, Real.cos_neg, Real.cos_pi_div_two, mul_zero]

/-- The real power −1/2 of a positive number is the inverse of its root. -/
theorem rpow_pos (r : ℝ) (h : 0 < r) : Real.rpow r (-(1 / 2)) = (Real.sqrt r)⁻¹ := by
  show r ^ (-(1 / 2) : ℝ) = _
  rw [Real.rpow_neg h.le, Real.sqrt_eq_rpow]

/-- The real power −1/2 of zero is zero. -/
theorem rpow_zero : Real.rpow 0 (-(1 / 2)) = 0 := by
  show (0 : ℝ) ^ (-(1 / 2) : ℝ) = 0
  exact Real.zero_rpow (by norm_num)

/-- The absolute value of a real number is not ∞. -/
theorem abs_coe (r : ℝ) : max (r : EReal) (-(r : EReal)) ≠ ⊤ := by
  rcases max_choice (r : EReal) (-(r : EReal)) with h | h <;> rw [h]
  · exact EReal.coe_ne_top _
  · rw [← EReal.coe_neg]; exact EReal.coe_ne_top _

/-- A power of −∞ is −∞. -/
theorem pow_bot (y : EReal) : Ideal.pow ⊥ y = ⊥ := rfl

/-- A power of ∞, by the sign of the exponent. -/
theorem pow_top (y : EReal) : Ideal.pow ⊤ y = if 0 < y then ⊤ else if y = 0 then 1 else 0 := rfl

/-- A power of real numbers is the real power. -/
theorem pow_coe (x y : ℝ) : Ideal.pow (x : EReal) (y : EReal) = ((Real.rpow x y : ℝ) : EReal) := rfl

/-- The inverse root of −∞ is −∞. -/
theorem rsqrt_bot : Ideal.rsqrt ⊥ = ⊥ := rfl

/-- The inverse root of ∞ is zero. -/
theorem rsqrt_top : Ideal.rsqrt ⊤ = 0 := rfl

/-- The inverse root of a real number, by its sign. -/
theorem rsqrt_coe (r : ℝ) : Ideal.rsqrt (r : EReal) = if r < 0 then ⊥ else if r = 0 then ⊤ else (((Real.sqrt r)⁻¹ : ℝ) : EReal) := rfl

/-- The inverse root at a real: zero unless it is positive. -/
theorem inv_coe (r : ℝ) : inv (r : EReal) = if 0 < r then (((Real.sqrt r)⁻¹ : ℝ) : EReal) else 0 := by
  unfold inv
  rw [neg_half, pow_coe]
  dsimp only
  rw [if_neg (abs_coe _)]
  split_ifs with h
  · rw [rpow_pos r h]
  · rcases lt_or_eq_of_le (not_lt.mp h) with l | e
    · rw [rpow_neg r l]; rfl
    · rw [e, rpow_zero]; rfl

/-- The guarded inverse root of −∞ is zero. -/
theorem inv_bot : inv ⊥ = 0 := by
  unfold inv; rw [pow_bot]; simp

/-- The guarded inverse root of ∞ is zero. -/
theorem inv_top : inv ⊤ = 0 := by
  unfold inv
  have h1 : ¬ (0 : EReal) < ((-(1 / 2) : ℝ) : EReal) := by
    rw [not_lt]; exact EReal.coe_nonpos.mpr (by norm_num)
  have h2 : ((-(1 / 2) : ℝ) : EReal) ≠ 0 := by
    rw [Ne, EReal.coe_eq_zero]; norm_num
  rw [neg_half, pow_top, if_neg h1, if_neg h2]
  simp

/-- The reciprocal root, an infinity replaced by zero, is the inverse root. -/
theorem rsqrt_eq (x : EReal) :
    (if max (Ideal.rsqrt x) (-Ideal.rsqrt x) = ⊤ then (0 : EReal) else Ideal.rsqrt x) = inv x := by
  induction x using EReal.rec with
  | bot => rw [inv_bot]; rw [rsqrt_bot]; simp
  | top => rw [inv_top, rsqrt_top]; simp
  | coe r =>
      rw [inv_coe, rsqrt_coe]
      rcases lt_trichotomy r 0 with h | h | h
      · rw [if_pos h, if_neg (not_lt.mpr h.le)]; simp
      · subst h; simp
      · rw [if_neg (not_lt.mpr h.le), if_neg h.ne', if_pos h, if_neg (abs_coe _)]

/-- The inverse root is a real, and where it is not zero its argument is a real. -/
theorem inv_real (x : EReal) : ∃ d : ℝ, inv x = (d : EReal) ∧ (d ≠ 0 → ∃ r : ℝ, x = (r : EReal)) := by
  induction x using EReal.rec with
  | bot => exact ⟨0, inv_bot, fun h => absurd rfl h⟩
  | top => exact ⟨0, inv_top, fun h => absurd rfl h⟩
  | coe r =>
      by_cases h : 0 < r
      · exact ⟨(Real.sqrt r)⁻¹, by rw [inv_coe, if_pos h], fun _ => ⟨r, rfl⟩⟩
      · exact ⟨0, by rw [inv_coe, if_neg h]; rfl, fun h => absurd rfl h⟩

/-! ## Sums -/

/-- A finite sum of real numbers is the same sum among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- If a sum is a real number, both its terms are. -/
theorem add_real {x y : EReal} (h : ∃ r : ℝ, x + y = (r : EReal)) : (∃ a : ℝ, x = (a : EReal)) ∧ (∃ b : ℝ, y = (b : EReal)) := by
  obtain ⟨r, h⟩ := h
  induction x using EReal.rec with
  | bot => rw [EReal.bot_add] at h; exact absurd h (EReal.bot_ne_coe r)
  | top =>
      induction y using EReal.rec with
      | bot => rw [EReal.add_bot] at h; exact absurd h (EReal.bot_ne_coe r)
      | top => exact absurd h (EReal.top_ne_coe r)
      | coe b => rw [EReal.top_add_coe] at h; exact absurd h (EReal.top_ne_coe r)
  | coe a =>
      refine ⟨⟨a, rfl⟩, ?_⟩
      induction y using EReal.rec with
      | bot => rw [EReal.add_bot] at h; exact absurd h (EReal.bot_ne_coe r)
      | top => rw [EReal.coe_add_top] at h; exact absurd h (EReal.top_ne_coe r)
      | coe b => exact ⟨b, rfl⟩

/-- The terms of a real sum are real. -/
theorem sum_real {ι : Type} (s : Finset ι) (f : ι → EReal) (h : ∃ r : ℝ, ∑ i ∈ s, f i = (r : EReal)) : ∀ i ∈ s, ∃ a : ℝ, f i = (a : EReal) := by
  classical
  induction s using Finset.induction_on with
  | empty => intro i hi; exact absurd hi (Finset.notMem_empty i)
  | insert a s ha ih =>
      rw [Finset.sum_insert ha] at h
      obtain ⟨h1, h2⟩ := add_real h
      intro i hi
      rcases Finset.mem_insert.mp hi with e | e
      · rw [e]; exact h1
      · exact ih h2 i e

/-- A product distributes over a sum one of whose terms is a real, when the factor is a real. -/
theorem add_mul_real (x : ℝ) (y : EReal) (e : ℝ) : ((x : EReal) + y) * (e : EReal) = x * e + y * e := by
  induction y using EReal.rec with
  | coe y => norm_cast; ring
  | bot =>
      rcases lt_trichotomy e 0 with h | h | h
      · rw [EReal.add_bot, EReal.bot_mul_coe_of_neg h, ← EReal.coe_mul, EReal.coe_add_top]
      · subst h; simp
      · rw [EReal.add_bot, EReal.bot_mul_coe_of_pos h, EReal.add_bot]
  | top =>
      rcases lt_trichotomy e 0 with h | h | h
      · rw [EReal.coe_add_top, EReal.top_mul_coe_of_neg h, EReal.add_bot]
      · subst h; simp
      · rw [EReal.coe_add_top, EReal.top_mul_coe_of_pos h, ← EReal.coe_mul, EReal.coe_add_top]

/-- One entry of the carried embedding: the learned part summed apart from the given part. -/
theorem carried {n : ℕ} (c c' : EReal) (hc : ∃ r : ℝ, 0 ≤ r ∧ c = (r : EReal)) (hc' : ∃ r : ℝ, 0 ≤ r ∧ c' = (r : EReal))
    (w d e io tx : Fin n → EReal) (di p q : EReal) (hd : ∀ k, ∃ r : ℝ, d k = (r : EReal)) (he : ∀ k, ∃ r : ℝ, e k = (r : EReal))
    (hdi : ∃ r : ℝ, di = (r : EReal) ∧ (r ≠ 0 → ∃ s : ℝ, ∑ k, w k = (s : EReal))) :
    (∑ k, w k * ((c * d k) * e k)) * di + ∑ k, ((c' * p) * io k + (c' * q) * tx k) * e k
      = ∑ k, (c * (di * w k * d k) + c' * (p * io k + q * tx k)) * e k := by
  obtain ⟨r, _, rfl⟩ := hc
  obtain ⟨r', hr', rfl⟩ := hc'
  obtain ⟨δ, rfl, hδ⟩ := hdi
  choose d' hd' using hd
  choose e' he' using he
  obtain rfl : d = fun k => (d' k : EReal) := funext hd'
  obtain rfl : e = fun k => (e' k : EReal) := funext he'
  have hw : ∃ u : Fin n → ℝ, ∀ k, (δ : EReal) * w k = ((δ * u k : ℝ) : EReal) ∧ (δ ≠ 0 → w k = (u k : EReal)) := by
    by_cases h0 : δ = 0
    · exact ⟨fun _ => 0, fun k => ⟨by rw [h0]; simp, fun h => absurd h0 h⟩⟩
    · choose u hu using fun k => sum_real Finset.univ w (hδ h0) k (Finset.mem_univ k)
      exact ⟨u, fun k => ⟨by rw [hu k, EReal.coe_mul], fun _ => hu k⟩⟩
  obtain ⟨u, hu⟩ := hw
  have key : ∀ k, ((r : EReal) * ((δ : EReal) * w k * (d' k : EReal)) + (r' : EReal) * (p * io k + q * tx k)) * (e' k : EReal)
      = ((r * (δ * u k * d' k) * e' k : ℝ) : EReal) + (((r' : EReal) * p) * io k + ((r' : EReal) * q) * tx k) * (e' k : EReal) := fun k => by
    rw [(hu k).1, EReal.left_distrib_of_nonneg_of_ne_top (EReal.coe_nonneg.mpr hr') (EReal.coe_ne_top _), ← mul_assoc (r' : EReal) p, ← mul_assoc (r' : EReal) q,
      ← EReal.coe_mul, ← EReal.coe_mul, add_mul_real, ← EReal.coe_mul]
  simp only [key]
  rw [Finset.sum_add_distrib, ← coe_sum]
  congr 1
  by_cases h0 : δ = 0
  · rw [h0]; simp
  · have : ∀ k, w k * (((r : EReal) * (d' k : EReal)) * (e' k : EReal)) = ((u k * (r * d' k * e' k) : ℝ) : EReal) := fun k => by
      rw [(hu k).2 h0]; norm_cast
    simp only [this]
    rw [← coe_sum, ← EReal.coe_mul, Finset.sum_mul]
    congr 1
    exact Finset.sum_congr rfl fun k _ => by ring

end Cert.Law
-- ==== Proof.Precond.lean ====
module

public import proofs.«01_k».proof.Proof.Sorted
public import proofs.«01_k».proof.Proof.Law
public import proofs.«01_k».proof.Proof.Gen.Pre_well_posed
public import Idealize.ShloMosaic.Lib.ReduceAll
public import Idealize.ShloMosaic.Lib.Affine

/-!
  What the precondition says: the item embedding is finite, and in every row of both similarity arrays the eleven greatest
  entries decrease strictly.
-/

@[expose] public section

set_option maxRecDepth 16384

noncomputable section

namespace Cert.Spec

open Idealize.ShloMosaic Idealize.ShloMosaic.TcCoe Idealize.SL.Sem
open Cert.Pre_well_posed Cert.Pre_well_posed.Gen

/-- Each of the ten greatest entries of every row compared with the next. -/
def strict (s : FVec Ideal S4096x4096 .f32) : IVec S4096x10 1 :=
  cmpf .ogt (extractStridedSlice S4096x10 ![0, 0] (Host.topK S4096x11 1 (FloatOps.cmpfTotal (F := Ideal) (φ := .f32) .gt) s sliceFits_S4096x4096_S4096x11).1 slices_S4096x11_S4096x10_0_0)
    (extractStridedSlice S4096x10 ![0, 1] (Host.topK S4096x11 1 (FloatOps.cmpfTotal (F := Ideal) (φ := .f32) .gt) s sliceFits_S4096x4096_S4096x11).1 slices_S4096x11_S4096x10_0_1)

/-- Every entry compared with +∞ in magnitude. -/
def small (e : FVec Ideal S4096x64 .f32) : IVec S4096x64 1 :=
  cmpf .olt (Host.absf e) (broadcastInDim S4096x64 ![] bcast_S_S4096x64 (constant S_ .f32 0x7F800000#32))

/-- All entries of a table of ten columns. -/
def all10 (x : IVec S4096x10 1) : IVec S_ 1 := Host.reduce IntOp.andi x (constantI S_ 1 1#1) reducesTo_S4096x10_S_d0_1 h_S_

/-- All entries of a table of sixty-four columns. -/
def all64 (x : IVec S4096x64 1) : IVec S_ 1 := Host.reduce IntOp.andi x (constantI S_ 1 1#1) reducesTo_S4096x64_S_d0_1 h_S_

/-- The printed precondition is the conjunction of its three conditions, spelt with the functions of `Spec`. -/
theorem fn_eq (a0 : FVec Ideal S4096x1024 .f32) (a1 : FVec Ideal S4096x384 .f32) (a2 : FVec Ideal S1024x64 .f32) (a3 : FVec Ideal S64 .f32)
    (a4 : FVec Ideal S384x64 .f32) (a5 : FVec Ideal S64 .f32) (a6 : FVec Ideal S2 .f32) (a7 : FVec Ideal S16384x64 .f32)
    (a8 : FVec Ideal S4096x64 .f32) (a9 : IVec S2x524288 32) (a10 a11 : FVec Ideal S4096x4096 .f32) (a12 : IVec S_ 1) :
    Cert.Pre_well_posed.fn (F := Ideal) a0 a1 a2 a3 a4 a5 a6 a7 a8 a9 a10 a11 a12
      = andi (andi (all64 (small a8)) (all10 (strict (sim (unit (featI a0 a2 a3)))))) (all10 (strict (sim (unit (featT a1 a4 a5))))) := rfl

/-- A conjunction of two single bits is one only if both are. -/
theorem andi_split (x y : IVec S_ 1) (h : andi x y = fun _ => 1#1) : x ix0 = 1#1 ∧ y ix0 = 1#1 := by
  have e : x ix0 &&& y ix0 = 1#1 := congrFun h ix0
  generalize x ix0 = u at e ⊢
  generalize y ix0 = v at e ⊢
  revert u v; decide

/-- The bit of a decided proposition is one only if the proposition holds. -/
theorem ofBool_one {p : Prop} [Decidable p] (h : BitVec.ofBool (decide p) = 1#1) : p := by
  by_contra n
  rw [decide_eq_false n] at h
  exact absurd h (by decide)

/-- A one in the comparison orders the two neighbouring entries strictly. -/
theorem strict_at (s : FVec Ideal S4096x4096 .f32) (i : Fin 4096) (a : Fin 10) (h : strict s (ix2 i a) = 1#1) :
    s (ix2 i (lead s i a.succ)) < s (ix2 i (lead s i a.castSucc)) := by
  revert h
  pointwise [strict]
  intro h
  have h := ofBool_one h
  have e : (⟨1 + a.1, by omega⟩ : Fin 11) = a.succ := Fin.ext (Nat.add_comm 1 a.1)
  refine lt_of_eq_of_lt ?_ (lt_of_lt_of_eq h (topK_val 11 (by decide) s _ i a.castSucc))
  exact (congrArg (fun z : Fin 11 => (Host.topK S4096x11 1 (FloatOps.cmpfTotal (F := Ideal) (φ := .f32) .gt) s sliceFits_S4096x4096_S4096x11).1 (ix2 i z)) e).trans
    (topK_val 11 (by decide) s _ i a.succ) |>.symm

/-- An entry below +∞ in magnitude is a real number. -/
theorem small_at (e : FVec Ideal S4096x64 .f32) (i : Fin 4096) (k : Fin 64) (h : small e (ix2 i k) = 1#1) : ∃ r : ℝ, e (ix2 i k) = (r : EReal) := by
  revert h
  pointwise [small]
  intro h
  have h : max (e (ix2 i k)) (-e (ix2 i k)) < Ideal.ofBits .f32 0x7F800000#32 := ofBool_one h
  rw [Law.pos_inf] at h
  generalize e (ix2 i k) = x at h ⊢
  induction x using EReal.rec with
  | bot => simp at h
  | coe r => exact ⟨r, rfl⟩
  | top => simp at h

/-- An array of no dimension has one index. -/
instance : Subsingleton S_.Idx := ⟨fun a b => funext fun d => d.elim0⟩

/-- What the precondition gives: a finite embedding, and rows of both similarities led by their eleven greatest entries. -/
theorem well_posed (a0 : FVec Ideal S4096x1024 .f32) (a1 : FVec Ideal S4096x384 .f32) (a2 : FVec Ideal S1024x64 .f32) (a3 : FVec Ideal S64 .f32)
    (a4 : FVec Ideal S384x64 .f32) (a5 : FVec Ideal S64 .f32) (a6 : FVec Ideal S2 .f32) (a7 : FVec Ideal S16384x64 .f32)
    (a8 : FVec Ideal S4096x64 .f32) (a9 : IVec S2x524288 32) (a10 a11 : FVec Ideal S4096x4096 .f32) (a12 : IVec S_ 1)
    (h : Cert.Pre_well_posed.fn (F := Ideal) a0 a1 a2 a3 a4 a5 a6 a7 a8 a9 a10 a11 a12 = fun _ => 1#1) :
    (∀ (i : Fin 4096) (k : Fin 64), ∃ r : ℝ, a8 (ix2 i k) = (r : EReal))
      ∧ (∀ i, TopK.Leads 10 (fun j => sim (unit (featI a0 a2 a3)) (ix2 i j)) (lead (sim (unit (featI a0 a2 a3))) i))
      ∧ (∀ i, TopK.Leads 10 (fun j => sim (unit (featT a1 a4 a5)) (ix2 i j)) (lead (sim (unit (featT a1 a4 a5))) i)) := by
  rw [fn_eq] at h
  obtain ⟨h1, ht⟩ := andi_split _ _ h
  obtain ⟨he, hi⟩ := IntOp.andi_eq_one.mp h1
  exact ⟨fun i k => small_at a8 i k (Host.reduce_andi_all _ _ _ _ _ he _),
    fun i => lead_leads _ i fun a => strict_at _ i a (Host.reduce_andi_all _ _ _ _ _ hi _),
    fun i => lead_leads _ i fun a => strict_at _ i a (Host.reduce_andi_all _ _ _ _ _ ht _)⟩

end Cert.Spec
-- ==== Proof.Host.lean ====
module

public import proofs.«01_k».proof.Proof.Spec
public import proofs.«01_k».proof.Proof.Gen.KernelIdeal.Frame
public import Idealize.ShloMosaic.Lib.Pipeline.ValueKit
public import Idealize.ShloMosaic.Lib.StableHlo.RunRead

/-!
  What each line of host operations leaves, over the buffers before it.
-/

@[expose] public section

set_option maxRecDepth 16384

noncomputable section

namespace Cert.KernelIdeal.Value

open Idealize.ShloMosaic Idealize.ShloMosaic.TcCoe Idealize.SL.Sem
open Cert.KernelIdeal Cert.KernelIdeal.Gen

variable (U : Valuation τ sig (Elt Ideal))

/-- The first stretch computes the softmax of the two logits. -/
theorem soft_read : StableHlo.after hostOps0 U (Proc.devRef .tc main_v9) = Spec.soft (U (Proc.devRef .tc main_arg6)) := by
  after_results; rfl

/-- It lays the image bias out as a row. -/
theorem biasI_read : StableHlo.after hostOps0 U (Proc.devRef .tc main_v10) = shapeCast S1x64 (U (Proc.devRef .tc main_arg3)) shapeCasts_S64_S1x64 := by
  after_results; rfl

/-- It lays the text bias out as a row. -/
theorem biasT_read : StableHlo.after hostOps0 U (Proc.devRef .tc main_v11) = shapeCast S1x64 (U (Proc.devRef .tc main_arg5)) shapeCasts_S64_S1x64 := by
  after_results; rfl

/-- The two weights laid out as a row. -/
theorem weights_read : StableHlo.after hostOps1 U (Proc.devRef .tc main_v13) = shapeCast S1x2 (U (Proc.devRef .tc main_v9)) shapeCasts_S2_S1x2 := by
  after_results; rfl

/-- The row sums, flattened, to the power −1/2. -/
theorem rsqrt_read : StableHlo.after hostOps2 U (Proc.devRef .tc main_v16)
    = Host.rsqrt (shapeCast S4096 (U (Proc.devRef .tc main_v14_1)) shapeCasts_S16x1x256_S4096 : FVec Ideal S4096 .f32) := by
  after_results; rfl

/-- Where that power is infinite. -/
theorem isinf_read : StableHlo.after hostOps2_1 U (Proc.devRef .tc main_v17)
    = cmpf (F := Ideal) .oeq (Host.absf (U (Proc.devRef .tc main_v16))) (broadcastInDim S4096 ![] bcast_S_S4096 (constant S_ .f32 0x7F800000#32)) := by
  after_results
  rfl

/-- The zero to put there. -/
theorem zero_read : StableHlo.after hostOps2_2 U (Proc.devRef .tc main_cst_2) = (constant S_ .f32 0x00000000#32 : FVec Ideal S_ .f32) := by
  after_results

/-- The power with its infinities replaced. -/
theorem where_read : StableHlo.after hostOps2_3 U (Proc.devRef .tc main_v18)
    = (select (U (Proc.devRef .tc main_v17) : IVec S4096 1) (broadcastInDim S4096 ![] bcast_S_S4096 (id (U (Proc.devRef .tc main_cst_2)))) (U (Proc.devRef .tc main_v16)) : FVec Ideal S4096 .f32) := by
  after_results
  rfl

/-- A tenth of the scales times the item embedding. -/
theorem scaled_read : StableHlo.after hostOps2_4 U (Proc.devRef .tc main_v23)
    = (mulf (broadcastInDim S4096x64 ![0, 1] bcast_S4096x1_S4096x64_0_1 (mulf (broadcastInDim S4096x1 ![] bcast_S_S4096x1 (constant S_ .f32 0x3DCCCCCD#32)) (broadcastInDim S4096x1 ![0] bcast_S4096_S4096x1_0 (U (Proc.devRef .tc main_v18))))) (U (Proc.devRef .tc main_arg8)) : FVec Ideal S4096x64 .f32) := by
  after_results

/-- Nine tenths of the two weights, as a row. -/
theorem ab_read : StableHlo.after hostOps2_4 U (Proc.devRef .tc main_v26)
    = shapeCast S1x2 (mulf (broadcastInDim S2 ![] bcast_S_S2 (constant S_ .f32 0x3F666666#32)) (U (Proc.devRef .tc main_v9)) : FVec Ideal S2 .f32) shapeCasts_S2_S1x2 := by
  after_results; rfl

/-- The scales as sixteen blocks. -/
theorem dl_read : StableHlo.after hostOps2_4 U (Proc.devRef .tc main_v27) = shapeCast S16x1x256 (U (Proc.devRef .tc main_v18)) shapeCasts_S4096_S16x1x256 := by
  after_results; rfl

/-- The mean of three arrays as the kernel's host code takes it: two additions and a division by three. -/
def avg (x y z : FVec Ideal S20480x64 .f32) : FVec Ideal S20480x64 .f32 :=
  Host.divf (addf (addf x y) z) (broadcastInDim S20480x64 ![] bcast_S_S20480x64 (constant S_ .f32 0x40400000#32))

/-- The two embeddings, one above the other. -/
theorem ego_read : StableHlo.after hostOps3 U (Proc.devRef .tc main_v29) = Spec.ego (U (Proc.devRef .tc main_arg7)) (U (Proc.devRef .tc main_arg8)) := by
  after_reads_simp; rfl

/-- The edges' first ends. -/
theorem row_read : StableHlo.after hostOps3 U (Proc.devRef .tc main_v31) = Spec.row (U (Proc.devRef .tc main_arg9)) := by
  after_reads_simp; rfl

/-- The edges' second ends. -/
theorem col_read : StableHlo.after hostOps3 U (Proc.devRef .tc main_v33) = Spec.col (U (Proc.devRef .tc main_arg9)) := by
  after_reads_simp; rfl

/-- The degrees to the power −1/2. -/
theorem pow_read : StableHlo.after hostOps3 U (Proc.devRef .tc main_v44) = Spec.degInv (Spec.row (U (Proc.devRef .tc main_arg9))) := by
  after_reads_simp; rfl

/-- Where that power is infinite. -/
theorem isinf3_read : StableHlo.after hostOps3_1 U (Proc.devRef .tc main_v45)
    = cmpf (F := Ideal) .oeq (Host.absf (U (Proc.devRef .tc main_v44))) (broadcastInDim S20480 ![] bcast_S_S20480 (constant S_ .f32 0x7F800000#32)) := by
  after_results; rfl

/-- The zero to put there. -/
theorem zero3_read : StableHlo.after hostOps3_2 U (Proc.devRef .tc main_cst_9) = (constant S_ .f32 0x00000000#32 : FVec Ideal S_ .f32) := by
  after_results

/-- The power with its infinities replaced. -/
theorem where3_read : StableHlo.after hostOps3_3 U (Proc.devRef .tc main_v46)
    = (select (U (Proc.devRef .tc main_v45) : IVec S20480 1) (broadcastInDim S20480 ![] bcast_S_S20480 (id (U (Proc.devRef .tc main_cst_9)))) (U (Proc.devRef .tc main_v44)) : FVec Ideal S20480 .f32) := by
  after_results; rfl

/-- The averaged embeddings over the buffers before the propagation. -/
def averaged : FVec Ideal S20480x64 .f32 :=
  let n := Spec.edge (U (Proc.devRef .tc main_v46)) (U (Proc.devRef .tc main_v31)) (U (Proc.devRef .tc main_v33))
  let x : FVec Ideal S20480x64 .f32 := U (Proc.devRef .tc main_v29)
  let y := Spec.hop n (U (Proc.devRef .tc main_v31)) (U (Proc.devRef .tc main_v33)) x
  avg x y (Spec.hop n (U (Proc.devRef .tc main_v31)) (U (Proc.devRef .tc main_v33)) y)

/-- The users' rows of the averaged embeddings. -/
theorem users_read : StableHlo.after hostOps3_4 U (Proc.devRef .tc main_v92) = extractStridedSlice S16384x64 ![0, 0] (averaged U) slices_S20480x64_S16384x64_0_0 := by
  after_reads_simp; rfl

/-- The items' rows of the averaged embeddings. -/
theorem items_read : StableHlo.after hostOps3_4 U (Proc.devRef .tc main_v93) = extractStridedSlice S4096x64 ![16384, 0] (averaged U) slices_S20480x64_S4096x64_16384_0 := by
  after_reads_simp; rfl

/-- The norms of the rows of the item embedding. -/
theorem norm_read : StableHlo.after hostOps3_5 U (Proc.devRef .tc main_v94)
    = (Host.sqrt (broadcastInDim S4096x1 ![0] bcast_S4096_S4096x1_0 (Host.reduceAdd (mulf (U (Proc.devRef .tc main_v28)) (U (Proc.devRef .tc main_v28))) (constant S_ .f32 0x00000000#32) reducesTo_S4096x64_S4096_d1 h_S_)) : FVec Ideal S4096x1 .f32) := by
  after_results; rfl

/-- The least norm to divide by. -/
theorem least_read : StableHlo.after hostOps3_6 U (Proc.devRef .tc main_cst_21) = (constant S_ .f32 0x2B8CBCCC#32 : FVec Ideal S_ .f32) := by
  after_results

/-- The norms, raised to it. -/
theorem clip_read : StableHlo.after hostOps3_7 U (Proc.devRef .tc main_v95)
    = (maximumf (broadcastInDim S4096x1 ![] bcast_S_S4096x1 (id (U (Proc.devRef .tc main_cst_21)))) (U (Proc.devRef .tc main_v94)) : FVec Ideal S4096x1 .f32) := by
  after_results; rfl

/-- The result over the buffers before the last line. -/
theorem result_read : StableHlo.after hostOps3_8 U (Proc.devRef .tc main_v99)
    = (concatenate S20480x64 0 [⟨S16384x64, U (Proc.devRef .tc main_v92)⟩, ⟨S4096x64, (addf (U (Proc.devRef .tc main_v93)) (Host.divf (U (Proc.devRef .tc main_v28)) (broadcastInDim S4096x64 ![0, 1] bcast_S4096x1_S4096x64_0_1 (U (Proc.devRef .tc main_v95)))) : FVec Ideal S4096x64 .f32)⟩] concatenates_S16384x64_S4096x64_S20480x64_d0 : FVec Ideal S20480x64 .f32) := by
  after_results

end Cert.KernelIdeal.Value
-- ==== Proof.HostMath.lean ====
module

public import proofs.«01_k».proof.Proof.Host
public import proofs.«01_k».proof.Proof.Law

/-!
  Two places at which the kernel's host code and the reference differ in form: the mean of three arrays, and the guard around
  the degrees' power, which never acts.
-/

@[expose] public section

set_option maxRecDepth 16384

noncomputable section

namespace Cert.KernelIdeal.Value

open Idealize.ShloMosaic Idealize.ShloMosaic.TcCoe Idealize.SL.Sem
open Cert.KernelIdeal Cert.KernelIdeal.Gen

/-- Adding three arrays and dividing by three is the mean of the stack. -/
theorem avg_eq (x y z : FVec Ideal S20480x64 .f32) : avg x y z = Spec.mean3 x y z := by
  funext k
  obtain ⟨i, j, rfl⟩ : ∃ (i : Fin 20480) (j : Fin 64), k = ix2 i j := ⟨k 0, k 1, ValueIdx.eq_ix2 k⟩
  pointwise [avg, Spec.mean3]
  rw [Fin.sum_univ_three]
  simp

/-- A degree is a real number. -/
theorem deg_real (r : IVec S524288 32) (i : S20480.Idx) : ∃ d : ℝ, Spec.deg r i = (d : EReal) := by
  have one : Ideal.ofBits .f32 0x3F800000#32 = ((1 : ℝ) : EReal) := by
    simp [Ideal.ofBits, Ideal.ieee, -EReal.coe_mul]
    norm_num
  refine ⟨∑ j ∈ Finset.univ.filter (fun j => ReferenceIdeal.scatter_S20480_S524288x1_S524288_n_0_0_1.resultIdx? j (Spec.wrap r) = some i), (1 : ℝ), ?_⟩
  rw [Law.coe_sum]
  refine Eq.trans (b := Ideal.ofBits .f32 0x00000000#32 + ∑ j ∈ Finset.univ.filter (fun j => ReferenceIdeal.scatter_S20480_S524288x1_S524288_n_0_0_1.resultIdx? j (Spec.wrap r) = some i), Ideal.ofBits .f32 0x3F800000#32) rfl ?_
  rw [one, Ideal.ofBits_zero .f32, zero_add]

/-- The degrees' power is real. -/
theorem degInv_real (r : IVec S524288 32) (i : Fin 20480) : ∃ d : ℝ, Spec.degInv r (ix1 i) = (d : EReal) := by
  obtain ⟨d, h⟩ := deg_real r (ix1 i)
  refine ⟨Real.rpow d (-(1 / 2)), ?_⟩
  pointwise [Spec.degInv]
  rw [h, Law.neg_half, Law.pow_coe]

/-- So no degree's power is infinite, and replacing infinities changes nothing. -/
theorem guard_eq (r : IVec S524288 32) (z : FVec Ideal S_ .f32) :
    (select (cmpf (F := Ideal) .oeq (Host.absf (Spec.degInv r)) (broadcastInDim S20480 ![] bcast_S_S20480 (constant S_ .f32 0x7F800000#32)))
      (broadcastInDim S20480 ![] bcast_S_S20480 (id z)) (Spec.degInv r) : FVec Ideal S20480 .f32) = Spec.degInv r := by
  funext k
  obtain ⟨i, rfl⟩ : ∃ i : Fin 20480, k = ix1 i := ⟨k 0, ValueIdx.eq_ix1 k⟩
  obtain ⟨d, h⟩ := degInv_real r i
  pointwise
  rw [h, Law.pos_inf, if_neg]
  exact Law.abs_coe d

end Cert.KernelIdeal.Value
-- ==== Proof.Region0.lean ====
module

public import proofs.«01_k».proof.Proof.Spec
public import proofs.«01_k».proof.Proof.Gen.KernelIdeal.Frame
public import Idealize.ShloMosaic.Lib.Pipeline.ValueKit

/-!
  The first pallas_call: the projected and normalised image and text features, eight blocks of 512 rows.
-/

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Where the first call's windows stand. -/
theorem idx0 : ∀ t : Fin cfg0.N, win0_0.index t = ![t.val, 0] ∧ win0_1.index t = ![0, 0] ∧ win0_2.index t = ![0, 0]
    ∧ win0_3.index t = ![t.val, 0] ∧ win0_4.index t = ![0, 0] ∧ win0_5.index t = ![0, 0]
    ∧ win0_6.index t = ![t.val, 0] ∧ win0_7.index t = ![t.val, 0] :=
  (by decide +kernel : ∀ t : Fin grid0.N, _)

/-- A bias as the one row of a matrix. -/
theorem bias_at (b : FVec Ideal S64 .f32) (k : Fin 64) : shapeCast S1x64 b shapeCasts_S64_S1x64 (ix2 0 k) = b (ix1 k) := by pointwise

/-- What the body writes at one grid step for the image features: that block of rows, projected and normalised. -/
theorem point0_6 (c : Dev nD) (b : FVec Ideal S64 .f32) (hb : ∀ k : Fin 64, V c main_v10 (ix2 0 k) = b (ix1 k)) (t : Fin cfg0.N) (y) :
    k0_pay1 (iblk0 V c 0 t) (iblk0 V c 1 t) (iblk0 V c 2 t) y
      = Spec.unit (Spec.featI (V c main_arg0) (V c main_arg2) b) (((cfg0.win 6).blk t).view.emb y) := by
  pointwise [k0_pay1, Spec.unit, Spec.featI]
  blk_point [iblk0, idx0 t]
  · exact (Eq.trans (b := V c main_v10 (ix2 0 (y 1))) (by blk_ext [idx0 t]) (hb (y 1))).trans (by blk_ext [idx0 t])
  · exact Eq.trans (b := V c main_v10 (ix2 0 x)) (by blk_ext [idx0 t]) (hb x)

/-- What the body writes at one grid step for the text features: that block of rows, projected and normalised. -/
theorem point0_7 (c : Dev nD) (b : FVec Ideal S64 .f32) (hb : ∀ k : Fin 64, V c main_v11 (ix2 0 k) = b (ix1 k)) (t : Fin cfg0.N) (y) :
    k0_pay2 (iblk0 V c 3 t) (iblk0 V c 4 t) (iblk0 V c 5 t) y
      = Spec.unit (Spec.featT (V c main_arg1) (V c main_arg4) b) (((cfg0.win 7).blk t).view.emb y) := by
  pointwise [k0_pay2, Spec.unit, Spec.featT]
  blk_point [iblk0, idx0 t]
  · exact (Eq.trans (b := V c main_v11 (ix2 0 (y 1))) (by blk_ext [idx0 t]) (hb (y 1))).trans (by blk_ext [idx0 t])
  · exact Eq.trans (b := V c main_v11 (ix2 0 x)) (by blk_ext [idx0 t]) (hb x)

/-- The normalised image features. -/
theorem final0_6 (c : Dev nD) (b : FVec Ideal S64 .f32) (hb : ∀ k : Fin 64, V c main_v10 (ix2 0 k) = b (ix1 k)) :
    (dat0 V c).arrAt 6 cfg0.N = Spec.unit (Spec.featI (V c main_arg0) (V c main_arg2) b) := by
  refine (dat0 V c).arrAt_eq_of_covers 6 _ (by decide +kernel) fun t _ y => ?_
  blk_simp
  rw [after0_6]; frame_out
  exact point0_6 V c b hb t y

/-- The normalised text features. -/
theorem final0_7 (c : Dev nD) (b : FVec Ideal S64 .f32) (hb : ∀ k : Fin 64, V c main_v11 (ix2 0 k) = b (ix1 k)) :
    (dat0 V c).arrAt 7 cfg0.N = Spec.unit (Spec.featT (V c main_arg1) (V c main_arg4) b) := by
  refine (dat0 V c).arrAt_eq_of_covers 7 _ (by decide +kernel) fun t _ y => ?_
  blk_simp
  rw [after0_7]; frame_out
  exact point0_7 V c b hb t y

end Cert.KernelIdeal.Value
-- ==== Proof.Rounds.lean ====
module

public import proofs.«01_k».proof.Proof.TopK
public import proofs.«01_k».proof.Proof.Law
public import proofs.«01_k».proof.Proof.Gen.KernelIdeal.Skeleton
public import Idealize.ShloMosaic.Lib.Pipeline.ValueKit

/-!
  The masking rounds of the second pallas_call: nine times the row's maximum is masked out, and the row's maximum then is the
  tenth of its entries.
-/

@[expose] public section

set_option maxRecDepth 16384

noncomputable section

namespace Cert.KernelIdeal.Value

open Idealize.ShloMosaic Idealize.ShloMosaic.TcCoe Idealize.SL.Sem
open Cert.KernelIdeal Cert.KernelIdeal.Gen

/-- The maximum of every row. -/
def rowMax (x : FVec Ideal S256x4096 .f32) : FVec Ideal S256x1 .f32 :=
  shapeCast S256x1 (multiReduction .maximumf [1] S256 x 0xFF800000#32 reduces_S256x4096_S256 (.inl rfl) rfl) shapeCasts_S256_S256x1

/-- Every row with its maximum masked out. -/
def maskMax (x : FVec Ideal S256x4096 .f32) : FVec Ideal S256x4096 .f32 :=
  select (cmpf .oge x (broadcastTo S256x4096 (rowMax x) broadcasts_S256x1_S256x4096))
    (broadcast S256x4096 (Scalar.ofBits .f32 0xFF800000#32)) x

/-- The image similarities after four rounds. -/
theorem pay5_eq (v0 : Vec Ideal S256x64 .f32) (v2 : Vec Ideal S4096x64 .f32) :
    k1_pay5 v0 v2 = maskMax (maskMax (maskMax (maskMax (k1_pay3 v0 v2)))) := rfl

/-- The fifth round's comparison. -/
theorem pay6_eq (v0 : Vec Ideal S256x64 .f32) (v2 : Vec Ideal S4096x64 .f32) :
    k1_pay6 v0 v2 = cmpf .oge (k1_pay5 v0 v2) (broadcastTo S256x4096 (rowMax (k1_pay5 v0 v2)) broadcasts_S256x1_S256x4096) := rfl

/-- Rounds five to nine and the maximum after them. -/
theorem pay8_eq (x : FVec Ideal S256x4096 .f32) :
    k1_pay8 x (cmpf .oge x (broadcastTo S256x4096 (rowMax x) broadcasts_S256x1_S256x4096)) (broadcast S256x4096 (Scalar.ofBits .f32 0xFF800000#32))
      = rowMax (maskMax (maskMax (maskMax (maskMax (maskMax x))))) := rfl

/-- The text similarities after three rounds. -/
theorem pay9_eq (x : FVec Ideal S256x4096 .f32) : k1_pay9 x = maskMax (maskMax (maskMax x)) := rfl

/-- Rounds four to nine and the maximum after them. -/
theorem pay10_eq (x : FVec Ideal S256x4096 .f32) : k1_pay10 x = rowMax (maskMax (maskMax (maskMax (maskMax (maskMax (maskMax x)))))) := rfl

/-- The maximum of a row is its greatest entry. -/
theorem rowMax_at (x : FVec Ideal S256x4096 .f32) (i : Fin 256) : rowMax x (ix2 i 0) = TopK.top fun k => x (ix2 i k) := by
  pointwise [rowMax]
  rw [Law.neg_inf]
  rfl

/-- Masking a row's maximum. -/
theorem maskMax_at (x : FVec Ideal S256x4096 .f32) (i : Fin 256) (j : Fin 4096) :
    maskMax x (ix2 i j) = TopK.mask (fun k => x (ix2 i k)) j := by
  pointwise [maskMax, rowMax]
  rw [Law.neg_inf]
  rfl

/-- Masking rounds, row by row. -/
theorem masks_at (x : FVec Ideal S256x4096 .f32) (i : Fin 256) (n : ℕ) (s : Fin 4096 → EReal) (h : (fun k => x (ix2 i k)) = TopK.mask^[n] s) :
    (fun k => maskMax x (ix2 i k)) = TopK.mask^[n + 1] s := by
  rw [Function.iterate_succ_apply', ← h]
  exact funext fun j => maskMax_at x i j

/-- The threshold of the image similarities: the greatest entry left after nine rounds. -/
theorem threshold_img (v0 : Vec Ideal S256x64 .f32) (v2 : Vec Ideal S4096x64 .f32) (i : Fin 256) :
    k1_pay8 (k1_pay5 v0 v2) (k1_pay6 v0 v2) k1_pay7 (ix2 i 0) = TopK.top (TopK.mask^[9] fun k => k1_pay3 v0 v2 (ix2 i k)) := by
  rw [pay6_eq]
  refine (congrFun (pay8_eq _) _).trans ((rowMax_at _ i).trans (congrArg TopK.top ?_))
  refine masks_at _ i 8 _ (masks_at _ i 7 _ (masks_at _ i 6 _ (masks_at _ i 5 _ (masks_at _ i 4 _ ?_))))
  rw [pay5_eq]
  exact masks_at _ i 3 _ (masks_at _ i 2 _ (masks_at _ i 1 _ (masks_at _ i 0 _ rfl)))

/-- The threshold of the text similarities. -/
theorem threshold_txt (x : FVec Ideal S256x4096 .f32) (i : Fin 256) :
    k1_pay10 (k1_pay9 x) (ix2 i 0) = TopK.top (TopK.mask^[9] fun k => x (ix2 i k)) := by
  refine (congrFun (pay10_eq _) _).trans ((rowMax_at _ i).trans (congrArg TopK.top ?_))
  refine masks_at _ i 8 _ (masks_at _ i 7 _ (masks_at _ i 6 _ (masks_at _ i 5 _ (masks_at _ i 4 _ (masks_at _ i 3 _ ?_)))))
  rw [pay9_eq]
  exact masks_at _ i 2 _ (masks_at _ i 1 _ (masks_at _ i 0 _ rfl))

end Cert.KernelIdeal.Value
-- ==== Proof.Blocks.lean ====
module

public import proofs.«01_k».proof.Proof.Gen.KernelIdeal.Skeleton
public import Idealize.ShloMosaic.Lib.Pipeline.ValueKit

/-!
  A vector of 4096 as sixteen blocks of 256.
-/

@[expose] public section

set_option maxRecDepth 16384

noncomputable section

namespace Cert.KernelIdeal.Value

open Idealize.ShloMosaic Idealize.ShloMosaic.TcCoe Idealize.SL.Sem
open Cert.KernelIdeal Cert.KernelIdeal.Gen

/-- A row of a block of 256 is a row of the 4096. -/
theorem blockRow_lt (s : Fin 16) (i : Fin 256) : s.val * 256 + i.val < 4096 := by omega

/-- The place of an entry of a block. -/
def blockRow (s : Fin 16) (i : Fin 256) : Fin 4096 := ⟨s.val * 256 + i.val, blockRow_lt s i⟩

/-- The block that a row lies in is one of the 16. -/
theorem block_lt (i : Fin 4096) : i.val / 256 < 16 := by omega

/-- The place of a row in its block is below 256. -/
theorem inner_lt (i : Fin 4096) : i.val % 256 < 256 := by omega

/-- Every row is the row of its block at its place. -/
theorem blockRow_split (i : Fin 4096) : blockRow ⟨i.val / 256, block_lt i⟩ ⟨i.val % 256, inner_lt i⟩ = i :=
  Fin.ext (by show i.val / 256 * 256 + i.val % 256 = i.val; omega)

/-- A vector laid out as blocks. -/
theorem blocks_at (d : FVec Ideal S4096 .f32) (s : Fin 16) (i : Fin 256) :
    shapeCast S16x1x256 d shapeCasts_S4096_S16x1x256 (ix3 s 0 i) = d (ix1 (blockRow s i)) := by
  pointwise
  rfl

/-- Blocks laid out as a vector. -/
theorem flat_at (d : FVec Ideal S16x1x256 .f32) (i : Fin 4096) :
    shapeCast S4096 d shapeCasts_S16x1x256_S4096 (ix1 i) = d (ix3 ⟨i.val / 256, block_lt i⟩ 0 ⟨i.val % 256, inner_lt i⟩) := by
  pointwise

end Cert.KernelIdeal.Value
-- ==== Proof.Region1.lean ====
module

public import proofs.«01_k».proof.Proof.Sorted
public import proofs.«01_k».proof.Proof.Rounds
public import proofs.«01_k».proof.Proof.Blocks
public import proofs.«01_k».proof.Proof.Gen.KernelIdeal.Frame
public import Idealize.ShloMosaic.Lib.Pipeline.ValueKit

/-!
  The second pallas_call: the two adjacencies of the ten nearest neighbours, mixed, and their row sums; sixteen blocks of 256
  rows.
-/

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

/-- The mixed entry: each similarity kept where it is at or above its row's threshold. -/
theorem mixed_at (v4 v9 : FVec Ideal S256x4096 .f32) (t1 t2 : FVec Ideal S256x1 .f32) (a b : EReal) (i : Fin 256) (j : Fin 4096) :
    k1_pay1 v4 v9 t2 a b (k1_pay11 v4 t1) (FloatOps.ofBits (F := Ideal) .f32 0#32) (ix2 i j)
      = a * (if t1 (ix2 i 0) ≤ v4 (ix2 i j) then v4 (ix2 i j) else 0) + b * (if t2 (ix2 i 0) ≤ v9 (ix2 i j) then v9 (ix2 i j) else 0) := by
  pointwise [k1_pay1, k1_pay11]

/-- Two arrays mixed, entry by entry. -/
theorem mix_at (q : FVec Ideal S2 .f32) (a b : FVec Ideal S4096x4096 .f32) (i j : Fin 4096) :
    Spec.mix q a b (ix2 i j) = q (ix1 0) * a (ix2 i j) + q (ix1 1) * b (ix2 i j) := by
  pointwise [Spec.mix, Spec.soft0, Spec.soft1]

variable (V : (c : Dev nD) → (b : Ref sig .tc) → Buf (Elt Ideal) ((c : Thread nD τ).loc b))

/-- Where the second call's windows stand. -/
theorem idx1 : ∀ t : Fin cfg1.N, win1_0.index t = ![0, 0] ∧ win1_1.index t = ![t.val, 0] ∧ win1_2.index t = ![0, 0]
    ∧ win1_3.index t = ![t.val, 0] ∧ win1_4.index t = ![0, 0] ∧ win1_5.index t = ![t.val, 0] ∧ win1_6.index t = ![t.val, 0, 0] :=
  (by decide +kernel : ∀ t : Fin grid1.N, _)

/-- The row of the array at which a row of a block stands. -/
def at1 (t : Fin cfg1.N) (i : Fin 256) : Fin 4096 := ⟨t.val * 256 + i.val, by have := t.2; have : cfg1.N = 16 := rfl; omega⟩

/-- A block of the image similarities. -/
theorem simI_at (c : Dev nD) (t : Fin cfg1.N) (i : Fin 256) (j : Fin 4096) :
    k1_pay3 (iblk1 V c 1 t) (iblk1 V c 2 t) (ix2 i j) = Spec.sim (V c main_v12_0) (ix2 (at1 t i) j) := by
  pointwise [k1_pay3, Spec.sim]
  blk_point [iblk1, idx1 t, at1]

/-- A block of the text similarities. -/
theorem simT_at (c : Dev nD) (t : Fin cfg1.N) (i : Fin 256) (j : Fin 4096) :
    k1_pay4 (iblk1 V c 3 t) (iblk1 V c 4 t) (ix2 i j) = Spec.sim (V c main_v12_1) (ix2 (at1 t i) j) := by
  pointwise [k1_pay4, Spec.sim]
  blk_point [iblk1, idx1 t, at1]

/-- The first weight, as the block holds it. -/
theorem wt0_at (c : Dev nD) (t : Fin cfg1.N) (h) :
    View.ld (iblk1 V c 0 t) (Rect.unit ![0, 0] ![1, 1] inb_S1x2_S1x1_0_0) (Shape.Idx.first h) = V c main_v13 (ix2 0 0) := by
  pointwise
  blk_point [iblk1, idx1 t]

/-- The second weight, as the block holds it. -/
theorem wt1_at (c : Dev nD) (t : Fin cfg1.N) (h) :
    View.ld (iblk1 V c 0 t) (Rect.unit ![0, 1] ![1, 1] inb_S1x2_S1x1_0_1) (Shape.Idx.first h) = V c main_v13 (ix2 0 1) := by
  pointwise
  blk_point [iblk1, idx1 t]

/-- The row sums of an array, as sixteen blocks of 256. -/
def rowSums (w : FVec Ideal S4096x4096 .f32) : FVec Ideal S16x1x256 .f32 :=
  fun y => ∑ k : Fin 4096, w (ix2 (blockRow (y 0) (y 2)) k)

/-- The second call's second payload sums the rows of its first. -/
theorem sums_at (v4 v9 : FVec Ideal S256x4096 .f32) (t2 : FVec Ideal S256x1 .f32) (a b : EReal) (v : IVec S256x4096 1) (z : EReal) (i : Fin 256) :
    k1_pay2 v4 v9 t2 a b v z (ix3 0 0 i) = ∑ k : Fin 4096, k1_pay1 v4 v9 t2 a b v z (ix2 i k) := by
  pointwise [k1_pay2]

section
variable (c : Dev nD) (q : FVec Ideal S2 .f32) (hq : ∀ k : Fin 2, V c main_v13 (ix2 0 k) = q (ix1 k))
  (hI : ∀ i, TopK.Leads 10 (fun j => Spec.sim (V c main_v12_0) (ix2 i j)) (Spec.lead (Spec.sim (V c main_v12_0)) i))
  (hT : ∀ i, TopK.Leads 10 (fun j => Spec.sim (V c main_v12_1) (ix2 i j)) (Spec.lead (Spec.sim (V c main_v12_1)) i))
include hq hI hT

/-- A block of the mixed adjacency. -/
theorem block1 (t : Fin cfg1.N) (h h') (i : Fin 256) (j : Fin 4096) :
    k1_pay1 (k1_pay3 (iblk1 V c 1 t) (iblk1 V c 2 t)) (k1_pay4 (iblk1 V c 3 t) (iblk1 V c 4 t))
      (k1_pay10 (k1_pay9 (k1_pay4 (iblk1 V c 3 t) (iblk1 V c 4 t))))
      (View.ld (iblk1 V c 0 t) (Rect.unit ![0, 0] ![1, 1] inb_S1x2_S1x1_0_0) (Shape.Idx.first h))
      (View.ld (iblk1 V c 0 t) (Rect.unit ![0, 1] ![1, 1] inb_S1x2_S1x1_0_1) (Shape.Idx.first h'))
      (k1_pay11 (k1_pay3 (iblk1 V c 1 t) (iblk1 V c 2 t))
        (k1_pay8 (k1_pay5 (iblk1 V c 1 t) (iblk1 V c 2 t)) (k1_pay6 (iblk1 V c 1 t) (iblk1 V c 2 t)) k1_pay7))
      (FloatOps.ofBits (F := Ideal) .f32 0#32) (ix2 i j)
      = Spec.learned q (V c main_v12_0) (V c main_v12_1) (ix2 (at1 t i) j) := by
  refine (mixed_at _ _ _ _ _ _ i j).trans (Eq.symm ((mix_at q _ _ (at1 t i) j).trans ?_))
  rw [Spec.adj_at _ _ _ (hI _), Spec.adj_at _ _ _ (hT _), threshold_img, threshold_txt, wt0_at V c t h, wt1_at V c t h', hq 0, hq 1]
  simp only [simI_at V c t, simT_at V c t]

/-- The mixed adjacency. -/
theorem final1_5 : (dat1 V c).arrAt 5 cfg1.N = Spec.learned q (V c main_v12_0) (V c main_v12_1) := by
  refine (dat1 V c).arrAt_eq_of_covers 5 _ (by decide +kernel) fun t _ y => ?_
  blk_simp
  rw [after1_5]; unfold outsAt1; dsimp only; frame_out
  obtain ⟨i, j, rfl⟩ : ∃ (i : Fin 256) (j : Fin 4096), y = ix2 i j := ⟨y 0, y 1, ValueIdx.eq_ix2 y⟩
  refine (block1 V c q hq hI hT t _ _ i j).trans (congrArg (Spec.learned q (V c main_v12_0) (V c main_v12_1)) ?_)
  blk_ext [idx1 t, at1]

/-- The row sums of the mixed adjacency. -/
theorem final1_6 : (dat1 V c).arrAt 6 cfg1.N = rowSums (Spec.learned q (V c main_v12_0) (V c main_v12_1)) := by
  refine (dat1 V c).arrAt_eq_of_covers 6 _ (by decide +kernel) fun t _ y => ?_
  blk_simp
  rw [after1_6]; unfold outsAt1; dsimp only; frame_out
  obtain ⟨i, rfl⟩ : ∃ (i : Fin 256), y = ix3 0 0 i :=
    ⟨y 2, (ValueIdx.eq_ix3 y).trans (by congr 1 <;> exact Subsingleton.elim (α := Fin 1) _ _)⟩
  refine (sums_at _ _ _ _ _ _ _ i).trans (Finset.sum_congr rfl fun k _ => ?_)
  refine (block1 V c q hq hI hT t _ _ i k).trans (congrArg (Spec.learned q (V c main_v12_0) (V c main_v12_1)) ?_)
  blk_ext [idx1 t, at1, blockRow]
end

end Cert.KernelIdeal.Value
-- ==== Proof.Region2.lean ====
module

public import proofs.«01_k».proof.Proof.Spec
public import proofs.«01_k».proof.Proof.Law
public import proofs.«01_k».proof.Proof.Blocks
public import proofs.«01_k».proof.Proof.Gen.KernelIdeal.Frame
public import Idealize.ShloMosaic.Lib.Pipeline.ValueKit

/-!
  The third pallas_call: the item embedding carried over the mixed graph, sixteen blocks of 256 rows.
-/

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

/-- The third call's payload, entry by entry. -/
theorem carried_at (a b : EReal) (w io tx : FVec Ideal S256x4096 .f32) (es e : FVec Ideal S4096x64 .f32) (d : FVec Ideal S1x1x256 .f32)
    (i : Fin 256) (j : Fin 64) :
    k2_pay1 a b w es d io tx e (ix2 i j)
      = (∑ k : Fin 4096, w (ix2 i k) * es (ix2 k j)) * d (ix3 0 0 i)
        + ∑ k : Fin 4096, (a * io (ix2 i k) + b * tx (ix2 i k)) * e (ix2 k j) := by
  pointwise [k2_pay1]

variable (V : (c : Dev nD) → (b : Ref sig .tc) → Buf (Elt Ideal) ((c : Thread nD τ).loc b))

/-- Where the third call's windows stand. -/
theorem idx2 : ∀ t : Fin cfg2.N, win2_0.index t = ![0, 0] ∧ win2_1.index t = ![t.val, 0, 0] ∧ win2_2.index t = ![t.val, 0]
    ∧ win2_3.index t = ![t.val, 0] ∧ win2_4.index t = ![t.val, 0] ∧ win2_5.index t = ![0, 0] ∧ win2_6.index t = ![0, 0]
    ∧ win2_7.index t = ![t.val, 0] :=
  (by decide +kernel : ∀ t : Fin grid2.N, _)

/-- The row of the array at which a row of a block stands. -/
def at2 (t : Fin cfg2.N) (i : Fin 256) : Fin 4096 := ⟨t.val * 256 + i.val, by have := t.2; have : cfg2.N = 16 := rfl; omega⟩

/-- The first weight, as the block holds it. -/
theorem ab0_at (c : Dev nD) (t : Fin cfg2.N) (h) :
    View.ld (iblk2 V c 0 t) (Rect.unit ![0, 0] ![1, 1] inb_S1x2_S1x1_0_0) (Shape.Idx.first h) = V c main_v26 (ix2 0 0) := by
  pointwise
  blk_point [iblk2, idx2 t]

/-- The second weight, as the block holds it. -/
theorem ab1_at (c : Dev nD) (t : Fin cfg2.N) (h) :
    View.ld (iblk2 V c 0 t) (Rect.unit ![0, 1] ![1, 1] inb_S1x2_S1x1_0_1) (Shape.Idx.first h) = V c main_v26 (ix2 0 1) := by
  pointwise
  blk_point [iblk2, idx2 t]

/-- A block of the scales. -/
theorem dl_blk (c : Dev nD) (t : Fin cfg2.N) (i : Fin 256) :
    iblk2 V c 1 t (ix3 0 0 i) = V c main_v27 (ix3 (⟨t.val, t.2⟩ : Fin 16) 0 i) := by
  blk_ext [iblk2, idx2 t]

/-- A block of the mixed adjacency. -/
theorem w_blk (c : Dev nD) (t : Fin cfg2.N) (i : Fin 256) (k : Fin 4096) : iblk2 V c 2 t (ix2 i k) = V c main_v14_0 (ix2 (at2 t i) k) := by
  blk_ext [iblk2, idx2 t, at2]

/-- A block of the first given graph. -/
theorem io_blk (c : Dev nD) (t : Fin cfg2.N) (i : Fin 256) (k : Fin 4096) : iblk2 V c 3 t (ix2 i k) = V c main_arg10 (ix2 (at2 t i) k) := by
  blk_ext [iblk2, idx2 t, at2]

/-- A block of the second given graph. -/
theorem tx_blk (c : Dev nD) (t : Fin cfg2.N) (i : Fin 256) (k : Fin 4096) : iblk2 V c 4 t (ix2 i k) = V c main_arg11 (ix2 (at2 t i) k) := by
  blk_ext [iblk2, idx2 t, at2]

/-- The scaled embedding, whole in every block. -/
theorem es_blk (c : Dev nD) (t : Fin cfg2.N) (k : Fin 4096) (j : Fin 64) : iblk2 V c 5 t (ix2 k j) = V c main_v23 (ix2 k j) := by
  blk_ext [iblk2, idx2 t]

/-- The embedding, whole in every block. -/
theorem e_blk (c : Dev nD) (t : Fin cfg2.N) (k : Fin 4096) (j : Fin 64) : iblk2 V c 6 t (ix2 k j) = V c main_arg8 (ix2 k j) := by
  blk_ext [iblk2, idx2 t]

/-- The scales of an array's rows are the powers −1/2 of their sums. -/
theorem dl_at (w : FVec Ideal S4096x4096 .f32) (i : Fin 4096) : Spec.dl w (ix1 i) = Law.inv (∑ k, w (ix2 i k)) := by
  pointwise [Spec.dl]
  rw [Law.inv, Law.pos_inf]
  have z : id (constant ReferenceIdeal.S_ .f32 0x00000000#32 : FVec Ideal ReferenceIdeal.S_ .f32) ix0 = (0 : EReal) := Ideal.ofBits_zero .f32
  rw [z]
  rfl

/-- The reference's item embedding, entry by entry. -/
theorem item_at (q : FVec Ideal S2 .f32) (w io tx : FVec Ideal S4096x4096 .f32) (e : FVec Ideal S4096x64 .f32) (i : Fin 4096) (j : Fin 64) :
    Spec.item q w io tx e (ix2 i j)
      = ∑ k, (Ideal.ofBits .f32 0x3DCCCCCD#32 * (Spec.dl w (ix1 i) * w (ix2 i k) * Spec.dl w (ix1 k))
          + Ideal.ofBits .f32 0x3F666666#32 * (q (ix1 0) * io (ix2 i k) + q (ix1 1) * tx (ix2 i k))) * e (ix2 k j) := by
  pointwise [Spec.item, Spec.mix, Spec.soft0, Spec.soft1]

section
variable (c : Dev nD) (q : FVec Ideal S2 .f32)
  (hab : ∀ k : Fin 2, V c main_v26 (ix2 0 k) = Ideal.ofBits .f32 0x3F666666#32 * q (ix1 k))
  (hd : ∀ (s : Fin 16) (i : Fin 256), V c main_v27 (ix3 s 0 i) = Spec.dl (V c main_v14_0) (ix1 (blockRow s i)))
  (hes : ∀ (k : Fin 4096) (j : Fin 64), V c main_v23 (ix2 k j)
    = Ideal.ofBits .f32 0x3DCCCCCD#32 * Spec.dl (V c main_v14_0) (ix1 k) * V c main_arg8 (ix2 k j))
  (he : ∀ (k : Fin 4096) (j : Fin 64), ∃ r : ℝ, V c main_arg8 (ix2 k j) = (r : EReal))
include hab hd hes he

/-- A block of the carried embedding. -/
theorem block2 (t : Fin cfg2.N) (h h') (i : Fin 256) (j : Fin 64) :
    k2_pay1 (View.ld (iblk2 V c 0 t) (Rect.unit ![0, 0] ![1, 1] inb_S1x2_S1x1_0_0) (Shape.Idx.first h))
      (View.ld (iblk2 V c 0 t) (Rect.unit ![0, 1] ![1, 1] inb_S1x2_S1x1_0_1) (Shape.Idx.first h')) (iblk2 V c 2 t)
      (iblk2 V c 5 t) (iblk2 V c 1 t) (iblk2 V c 3 t) (iblk2 V c 4 t) (iblk2 V c 6 t) (ix2 i j)
      = Spec.item q (V c main_v14_0) (V c main_arg10) (V c main_arg11) (V c main_arg8) (ix2 (at2 t i) j) := by
  refine (carried_at _ _ _ _ _ _ _ _ i j).trans (Eq.symm ((item_at q _ _ _ _ (at2 t i) j).trans (Eq.symm ?_)))
  rw [ab0_at V c t h, ab1_at V c t h', hab 0, hab 1, dl_blk V c t i, hd]
  simp only [w_blk V c t, io_blk V c t, tx_blk V c t, es_blk V c t, e_blk V c t, hes]
  refine Law.carried _ _ Law.tenth Law.ninth _ _ _ _ _ _ _ _ (fun k => ?_) (fun k => he k j) ?_
  · rw [dl_at]
    obtain ⟨d, e, -⟩ := Law.inv_real (∑ l, V c main_v14_0 (ix2 k l))
    exact ⟨d, e⟩
  · exact (dl_at (V c main_v14_0) (at2 t i)).symm ▸ Law.inv_real _

/-- The carried embedding. -/
theorem final2_7 : (dat2 V c).arrAt 7 cfg2.N = Spec.item q (V c main_v14_0) (V c main_arg10) (V c main_arg11) (V c main_arg8) := by
  refine (dat2 V c).arrAt_eq_of_covers 7 _ (by decide +kernel) fun t _ y => ?_
  blk_simp
  rw [after2_7]; unfold outsAt2; dsimp only; frame_out
  obtain ⟨i, j, rfl⟩ : ∃ (i : Fin 256) (j : Fin 64), y = ix2 i j := ⟨y 0, y 1, ValueIdx.eq_ix2 y⟩
  refine (block2 V c q hab hd hes he t _ _ i j).trans (congrArg (Spec.item q (V c main_v14_0) (V c main_arg10) (V c main_arg11) (V c main_arg8)) ?_)
  blk_ext [idx2 t, at2]
end

end Cert.KernelIdeal.Value
-- ==== Proof.Result.lean ====
module

public import proofs.«01_k».proof.Proof.HostMath
public import proofs.«01_k».proof.Proof.Region0
public import proofs.«01_k».proof.Proof.Region1
public import proofs.«01_k».proof.Proof.Region2

/-!
  The kernel's result array: the three calls and the lines of host operations between them, put together.
-/

@[expose] public section

set_option maxRecDepth 16384

noncomputable section

namespace Cert.KernelIdeal.Value

open Idealize.ShloMosaic Idealize.ShloMosaic.TcCoe Idealize.SL.Sem
open Cert.KernelIdeal Cert.KernelIdeal.Gen

/-- The host's scales of the row sums are the reference's scales. -/
theorem scales_eq (w : FVec Ideal S4096x4096 .f32) (p : FVec Ideal S4096 .f32)
    (hp : p = Host.rsqrt (shapeCast S4096 (rowSums w) shapeCasts_S16x1x256_S4096)) :
    (select (cmpf (F := Ideal) .oeq (Host.absf p) (broadcastInDim S4096 ![] bcast_S_S4096 (constant S_ .f32 0x7F800000#32)))
      (broadcastInDim S4096 ![] bcast_S_S4096 (id (constant S_ .f32 0x00000000#32 : FVec Ideal S_ .f32))) p : FVec Ideal S4096 .f32) = Spec.dl w := by
  funext k
  obtain ⟨i, rfl⟩ : ∃ i : Fin 4096, k = ix1 i := ⟨k 0, ValueIdx.eq_ix1 k⟩
  have e : p (ix1 i) = Ideal.rsqrt (∑ l, w (ix2 i l)) := by
    rw [hp]
    refine congrArg Ideal.rsqrt ((flat_at (rowSums w) i).trans ?_)
    exact Finset.sum_congr rfl fun l _ => congrArg (fun z => w (ix2 z l)) (blockRow_split i)
  refine Eq.trans ?_ (dl_at w i).symm
  pointwise
  rw [e, Law.pos_inf]
  have z : id (constant S_ .f32 0x00000000#32 : FVec Ideal S_ .f32) ix0 = (0 : EReal) := Ideal.ofBits_zero .f32
  rw [z]
  exact Law.rsqrt_eq _

/-- The scaled embedding, entry by entry. -/
theorem scaled_at (d : FVec Ideal S4096 .f32) (e : FVec Ideal S4096x64 .f32) (k : Fin 4096) (j : Fin 64) :
    (mulf (broadcastInDim S4096x64 ![0, 1] bcast_S4096x1_S4096x64_0_1 (mulf (broadcastInDim S4096x1 ![] bcast_S_S4096x1 (constant S_ .f32 0x3DCCCCCD#32)) (broadcastInDim S4096x1 ![0] bcast_S4096_S4096x1_0 d))) e : FVec Ideal S4096x64 .f32) (ix2 k j)
      = Ideal.ofBits .f32 0x3DCCCCCD#32 * d (ix1 k) * e (ix2 k j) := by
  pointwise

variable (m : (ℓ : Loc nD τ sig) → Buf (Elt Ideal) ℓ) (ρ : Dev nD → PrngReg) (c : Dev nD)

/-- An argument's contents at launch. -/
abbrev arg (r : Ref sig .tc) : Buf (Elt Ideal) ((c : Thread nD τ).loc r) := m ((c : Thread nD τ).loc r)

/-- The image features after the first call. -/
abbrev uI : FVec Ideal S4096x64 .f32 := Spec.unit (Spec.featI (arg m c main_arg0) (arg m c main_arg2) (arg m c main_arg3))

/-- The text features after the first call. -/
abbrev uT : FVec Ideal S4096x64 .f32 := Spec.unit (Spec.featT (arg m c main_arg1) (arg m c main_arg4) (arg m c main_arg5))

/-- The two mixing weights. -/
abbrev wts : FVec Ideal S2 .f32 := Spec.soft (arg m c main_arg6)

/-- The learned graph. -/
abbrev graph : FVec Ideal S4096x4096 .f32 := Spec.learned (wts m c) (uI m c) (uT m c)

/-! ## The first call -/

/-- The modal weights after the first host stretch. -/
theorem W1_soft : W1 m ρ c (Proc.devRef .tc main_v9) = wts m c := soft_read _

/-- The image bias as the first call is given it. -/
theorem W1_biasI (k : Fin 64) : V1 m ρ c main_v10 (ix2 0 k) = (arg m c main_arg3 : FVec Ideal S64 .f32) (ix1 k) :=
  (congrFun (biasI_read (W0 m ρ c)) (ix2 0 k)).trans (bias_at _ k)

/-- The text bias as the first call is given it. -/
theorem W1_biasT (k : Fin 64) : V1 m ρ c main_v11 (ix2 0 k) = (arg m c main_arg5 : FVec Ideal S64 .f32) (ix1 k) :=
  (congrFun (biasT_read (W0 m ρ c)) (ix2 0 k)).trans (bias_at _ k)

/-- The normalised image features that the first call leaves. -/
theorem W2_uI : W2 m ρ c (Proc.devRef .tc main_v12_0) = uI m c := by
  refine (W2_arr m ρ c 6).trans ((final0_6 (V1 m ρ) c _ (W1_biasI m ρ c)).trans ?_)
  rw [show V1 m ρ c main_arg0 = arg m c main_arg0 from W1_args m ρ c _ (by decide), show V1 m ρ c main_arg2 = arg m c main_arg2 from W1_args m ρ c _ (by decide)]

/-- The normalised text features that the first call leaves. -/
theorem W2_uT : W2 m ρ c (Proc.devRef .tc main_v12_1) = uT m c := by
  refine (W2_arr m ρ c 7).trans ((final0_7 (V1 m ρ) c _ (W1_biasT m ρ c)).trans ?_)
  rw [show V1 m ρ c main_arg1 = arg m c main_arg1 from W1_args m ρ c _ (by decide), show V1 m ρ c main_arg4 = arg m c main_arg4 from W1_args m ρ c _ (by decide)]

/-! ## The second call -/

/-- The normalised image features as the second call is given them. -/
theorem W3_uI : V3 m ρ c main_v12_0 = uI m c := (W3_of m ρ c _ (by decide)).trans (W2_uI m ρ c)

/-- The normalised text features as the second call is given them. -/
theorem W3_uT : V3 m ρ c main_v12_1 = uT m c := (W3_of m ρ c _ (by decide)).trans (W2_uT m ρ c)

/-- The first call leaves the modal weights alone. -/
theorem W2_soft : W2 m ρ c (Proc.devRef .tc main_v9) = wts m c := (W2_of m ρ c _ (by decide +kernel)).trans (W1_soft m ρ c)

/-- The two weights as the one row of a matrix. -/
theorem pair_at (q : FVec Ideal S2 .f32) (k : Fin 2) : shapeCast S1x2 q shapeCasts_S2_S1x2 (ix2 0 k) = q (ix1 k) := by pointwise

/-- The modal weights as the second call is given them. -/
theorem W3_weights (k : Fin 2) : V3 m ρ c main_v13 (ix2 0 k) = wts m c (ix1 k) := by
  refine (congrFun (weights_read (W2 m ρ c)) (ix2 0 k)).trans ?_
  rw [W2_soft m ρ c]
  exact pair_at _ k

section
variable (hI : ∀ i, TopK.Leads 10 (fun j => Spec.sim (uI m c) (ix2 i j)) (Spec.lead (Spec.sim (uI m c)) i))
  (hT : ∀ i, TopK.Leads 10 (fun j => Spec.sim (uT m c) (ix2 i j)) (Spec.lead (Spec.sim (uT m c)) i))
include hI hT

/-- The learned graph that the second call leaves. -/
theorem W4_graph : W4 m ρ c (Proc.devRef .tc main_v14_0) = graph m c := by
  refine (W4_arr m ρ c 5).trans ((final1_5 (V3 m ρ) c (wts m c) (W3_weights m ρ c) ?_ ?_).trans ?_)
  · rw [W3_uI m ρ c]; exact hI
  · rw [W3_uT m ρ c]; exact hT
  · rw [W3_uI m ρ c, W3_uT m ρ c]

/-- The sums of the graph's rows that the second call leaves, block by block. -/
theorem W4_sums : W4 m ρ c (Proc.devRef .tc main_v14_1) = rowSums (graph m c) := by
  refine (W4_arr m ρ c 6).trans ((final1_6 (V3 m ρ) c (wts m c) (W3_weights m ρ c) ?_ ?_).trans ?_)
  · rw [W3_uI m ρ c]; exact hI
  · rw [W3_uT m ρ c]; exact hT
  · rw [W3_uI m ρ c, W3_uT m ρ c]

/-! ## Between the second and the third call -/

/-- The inverse roots of the sums, before infinite ones are replaced. -/
theorem W5_power : W5 m ρ c (Proc.devRef .tc main_v16) = Host.rsqrt (shapeCast S4096 (rowSums (graph m c)) shapeCasts_S16x1x256_S4096 : FVec Ideal S4096 .f32) :=
  (rsqrt_read (W4 m ρ c)).trans (by rw [W4_sums m ρ c hI hT])

/-- The graph's scales: inverse roots, infinite ones replaced by zero, as the reference has them. -/
theorem W8_scales : W8 m ρ c (Proc.devRef .tc main_v18) = Spec.dl (graph m c) := by
  refine (where_read (W7 m ρ c)).trans ?_
  rw [show W7 m ρ c (Proc.devRef .tc main_v17) = _ from (W7_of m ρ c _ (by decide)).trans (isinf_read (W5 m ρ c)),
    show W7 m ρ c (Proc.devRef .tc main_cst_2) = _ from zero_read (W6 m ρ c),
    show W7 m ρ c (Proc.devRef .tc main_v16) = W5 m ρ c (Proc.devRef .tc main_v16) from (W7_of m ρ c _ (by decide)).trans (W6_of m ρ c _ (by decide))]
  exact scales_eq _ _ (W5_power m ρ c hI hT)

/-- The learned graph as the third call is given it. -/
theorem W9_graph : V9 m ρ c main_v14_0 = graph m c :=
  (W9_of m ρ c _ (by decide)).trans ((W8_of m ρ c _ (by decide)).trans ((W7_of m ρ c _ (by decide)).trans
    ((W6_of m ρ c _ (by decide)).trans ((W5_of m ρ c _ (by decide)).trans (W4_graph m ρ c hI hT)))))

omit hI hT in
/-- The modal weights are still there when the third call's operands are made. -/
theorem W8_soft : W8 m ρ c (Proc.devRef .tc main_v9) = wts m c :=
  (W8_of m ρ c _ (by decide)).trans ((W7_of m ρ c _ (by decide)).trans ((W6_of m ρ c _ (by decide)).trans ((W5_of m ρ c _ (by decide)).trans
    ((W4_of m ρ c _ (by decide +kernel)).trans ((W3_of m ρ c _ (by decide)).trans (W2_soft m ρ c))))))

omit hI hT in
/-- The two original graphs' weights as the third call is given them. -/
theorem W9_ab (k : Fin 2) : V9 m ρ c main_v26 (ix2 0 k) = Ideal.ofBits .f32 0x3F666666#32 * wts m c (ix1 k) := by
  refine (congrFun (ab_read (W8 m ρ c)) (ix2 0 k)).trans ?_
  rw [W8_soft m ρ c]
  refine (pair_at _ k).trans ?_
  pointwise

/-- The scales of the rows as the third call is given them, block by block. -/
theorem W9_dl (s : Fin 16) (i : Fin 256) :
    V9 m ρ c main_v27 (ix3 s 0 i) = Spec.dl (V9 m ρ c main_v14_0) (ix1 (blockRow s i)) := by
  refine (congrFun (dl_read (W8 m ρ c)) (ix3 s 0 i)).trans ?_
  rw [W8_scales m ρ c hI hT, W9_graph m ρ c hI hT]
  exact blocks_at _ s i

/-- The scaled item embedding as the third call is given it. -/
theorem W9_scaled (k : Fin 4096) (j : Fin 64) : V9 m ρ c main_v23 (ix2 k j)
    = Ideal.ofBits .f32 0x3DCCCCCD#32 * Spec.dl (V9 m ρ c main_v14_0) (ix1 k) * V9 m ρ c main_arg8 (ix2 k j) := by
  refine (congrFun (scaled_read (W8 m ρ c)) (ix2 k j)).trans ?_
  rw [W8_scales m ρ c hI hT, W9_graph m ρ c hI hT, show V9 m ρ c main_arg8 = W8 m ρ c (Proc.devRef .tc main_arg8) from W9_of m ρ c _ (by decide)]
  exact scaled_at _ _ k j

/-! ## The third call -/

variable (he : ∀ (k : Fin 4096) (j : Fin 64), ∃ r : ℝ, (arg m c main_arg8 : FVec Ideal S4096x64 .f32) (ix2 k j) = (r : EReal))
include he

/-- The item embedding that the third call leaves is the reference's. -/
theorem W10_item : W10 m ρ c (Proc.devRef .tc main_v28)
    = Spec.item (wts m c) (graph m c) (arg m c main_arg10) (arg m c main_arg11) (arg m c main_arg8) := by
  have e8 : V9 m ρ c main_arg8 = arg m c main_arg8 := W9_args m ρ c _ (by decide)
  refine (W10_arr m ρ c 7).trans ((final2_7 (V9 m ρ) c (wts m c) (W9_ab m ρ c) (W9_dl m ρ c hI hT) (W9_scaled m ρ c hI hT) ?_).trans ?_)
  · rw [e8]; exact he
  · rw [W9_graph m ρ c hI hT, e8, show V9 m ρ c main_arg10 = arg m c main_arg10 from W9_args m ρ c _ (by decide),
      show V9 m ρ c main_arg11 = arg m c main_arg11 from W9_args m ρ c _ (by decide)]

end

end Cert.KernelIdeal.Value
-- ==== Proof.Tail.lean ====
module

public import proofs.«01_k».proof.Proof.Result

/-!
  The last stretch: the propagation over the users' and items' graph, and the kernel's result array.
-/

@[expose] public section

set_option maxRecDepth 16384

noncomputable section

namespace Cert.KernelIdeal.Value

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The edges' first ends. -/
abbrev rowE : IVec S524288 32 := Spec.row (arg m c main_arg9)

/-- The edges' second ends. -/
abbrev colE : IVec S524288 32 := Spec.col (arg m c main_arg9)

/-- The two embeddings, one above the other. -/
abbrev egoE : FVec Ideal S20480x64 .f32 := Spec.ego (arg m c main_arg7) (arg m c main_arg8)

/-- The embeddings averaged over no, one and two rounds of propagation. -/
def spread : FVec Ideal S20480x64 .f32 :=
  let n := Spec.edge (Spec.degInv (rowE m c)) (rowE m c) (colE m c)
  let y := Spec.hop n (rowE m c) (colE m c) (egoE m c)
  Spec.mean3 (egoE m c) y (Spec.hop n (rowE m c) (colE m c) y)

/-- The two embeddings joined, as the propagation starts from them. -/
theorem W11_ego : W11 m ρ c (Proc.devRef .tc main_v29) = egoE m c := by
  refine (ego_read (W10 m ρ c)).trans ?_
  rw [W10_args m ρ c main_arg7 (by decide), W10_args m ρ c main_arg8 (by decide)]

/-- The edges' first ends. -/
theorem W11_row : W11 m ρ c (Proc.devRef .tc main_v31) = rowE m c := by
  refine (row_read (W10 m ρ c)).trans ?_
  rw [W10_args m ρ c main_arg9 (by decide)]

/-- The edges' second ends. -/
theorem W11_col : W11 m ρ c (Proc.devRef .tc main_v33) = colE m c := by
  refine (col_read (W10 m ρ c)).trans ?_
  rw [W10_args m ρ c main_arg9 (by decide)]

/-- The degrees to the power −1/2. -/
theorem W11_pow : W11 m ρ c (Proc.devRef .tc main_v44) = Spec.degInv (rowE m c) := by
  refine (pow_read (W10 m ρ c)).trans ?_
  rw [W10_args m ρ c main_arg9 (by decide)]

/-- What the lines that look for an infinite power leave alone. -/
theorem W14_of_W11 (r : Ref sig .tc) (h1 : r ∉ hostOps3_1_W) (h2 : r ∉ hostOps3_2_W) (h3 : r ∉ hostOps3_3_W) :
    W14 m ρ c (Proc.devRef .tc r) = W11 m ρ c (Proc.devRef .tc r) :=
  (W14_of m ρ c r h3).trans ((W13_of m ρ c r h2).trans (W12_of m ρ c r h1))

/-- The guard against infinite powers changes nothing. -/
theorem W14_pow : W14 m ρ c (Proc.devRef .tc main_v46) = Spec.degInv (rowE m c) := by
  refine (where3_read (W13 m ρ c)).trans ?_
  rw [show W13 m ρ c (Proc.devRef .tc main_v45) = _ from (W13_of m ρ c _ (by decide)).trans (isinf3_read (W11 m ρ c)),
    show W13 m ρ c (Proc.devRef .tc main_v44) = W11 m ρ c (Proc.devRef .tc main_v44) from (W13_of m ρ c _ (by decide)).trans (W12_of m ρ c _ (by decide)),
    W11_pow m ρ c]
  exact guard_eq _ _

/-- The averaged embeddings are the reference's. -/
theorem W14_averaged : averaged (W14 m ρ c) = spread m c := by
  unfold averaged spread
  rw [W14_pow m ρ c, (W14_of_W11 m ρ c main_v31 (by decide) (by decide) (by decide)).trans (W11_row m ρ c),
    (W14_of_W11 m ρ c main_v33 (by decide) (by decide) (by decide)).trans (W11_col m ρ c),
    (W14_of_W11 m ρ c main_v29 (by decide) (by decide) (by decide)).trans (W11_ego m ρ c)]
  exact avg_eq _ _ _

/-- The users' part of the averaged embeddings. -/
theorem W15_users : W15 m ρ c (Proc.devRef .tc main_v92) = extractStridedSlice S16384x64 ![0, 0] (spread m c) slices_S20480x64_S16384x64_0_0 := by
  refine (users_read (W14 m ρ c)).trans ?_
  rw [W14_averaged m ρ c]

/-- The items' part of the averaged embeddings. -/
theorem W15_items : W15 m ρ c (Proc.devRef .tc main_v93) = extractStridedSlice S4096x64 ![16384, 0] (spread m c) slices_S20480x64_S4096x64_16384_0 := by
  refine (items_read (W14 m ρ c)).trans ?_
  rw [W14_averaged m ρ c]

/-- What the last four lines leave alone. -/
theorem W18_of_W15 (r : Ref sig .tc) (h5 : r ∉ hostOps3_5_W) (h6 : r ∉ hostOps3_6_W) (h7 : r ∉ hostOps3_7_W) :
    W18 m ρ c (Proc.devRef .tc r) = W15 m ρ c (Proc.devRef .tc r) :=
  (W18_of m ρ c r h7).trans ((W17_of m ρ c r h6).trans (W16_of m ρ c r h5))

section
variable (h : FVec Ideal S4096x64 .f32) (hh : W10 m ρ c (Proc.devRef .tc main_v28) = h)
include hh

/-- The third call's item embedding is untouched by the propagation. -/
theorem W15_item : W15 m ρ c (Proc.devRef .tc main_v28) = h :=
  (W15_of m ρ c _ (by decide)).trans ((W14_of_W11 m ρ c _ (by decide) (by decide) (by decide)).trans ((W11_of m ρ c _ (by decide)).trans hh))

/-- The rows' norms of the item embedding, bounded below. -/
theorem W18_norm : W18 m ρ c (Proc.devRef .tc main_v95)
    = (maximumf (broadcastInDim S4096x1 ![] bcast_S_S4096x1 (id (constant S_ .f32 0x2B8CBCCC#32))) (Host.sqrt (broadcastInDim S4096x1 ![0] bcast_S4096_S4096x1_0 (Host.reduceAdd (mulf h h) (constant S_ .f32 0x00000000#32) reducesTo_S4096x64_S4096_d1 h_S_))) : FVec Ideal S4096x1 .f32) := by
  refine (clip_read (W17 m ρ c)).trans ?_
  rw [show W17 m ρ c (Proc.devRef .tc main_cst_21) = _ from least_read (W16 m ρ c),
    show W17 m ρ c (Proc.devRef .tc main_v94) = _ from (W17_of m ρ c _ (by decide)).trans (norm_read (W15 m ρ c)),
    W15_item m ρ c h hh]

/-- The result array from the carried item embedding. -/
theorem W19_close : W19 m ρ c (Proc.devRef .tc main_v99) = Spec.close (spread m c) h := by
  refine (result_read (W18 m ρ c)).trans ?_
  rw [(W18_of_W15 m ρ c main_v92 (by decide) (by decide) (by decide)).trans (W15_users m ρ c),
    (W18_of_W15 m ρ c main_v93 (by decide) (by decide) (by decide)).trans (W15_items m ρ c),
    (W18_of_W15 m ρ c main_v28 (by decide) (by decide) (by decide)).trans (W15_item m ρ c h hh), W18_norm m ρ c h hh]
  rfl
end

/-- The kernel's result array is the whole computation of its arguments. -/
theorem final
    (he : ∀ (k : Fin 4096) (j : Fin 64), ∃ r : ℝ, (arg m c main_arg8 : FVec Ideal S4096x64 .f32) (ix2 k j) = (r : EReal))
    (hI : ∀ i, TopK.Leads 10 (fun j => Spec.sim (uI m c) (ix2 i j)) (Spec.lead (Spec.sim (uI m c)) i))
    (hT : ∀ i, TopK.Leads 10 (fun j => Spec.sim (uT m c) (ix2 i j)) (Spec.lead (Spec.sim (uT m c)) i)) :
    W19 m ρ c (Proc.devRef .tc main_v99)
      = Spec.result (arg m c main_arg0) (arg m c main_arg1) (arg m c main_arg2) (arg m c main_arg3) (arg m c main_arg4) (arg m c main_arg5)
          (arg m c main_arg6) (arg m c main_arg7) (arg m c main_arg8) (arg m c main_arg9) (arg m c main_arg10) (arg m c main_arg11) :=
  W19_close m ρ c _ (W10_item m ρ c hI hT he)

end Cert.KernelIdeal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_well_posed
public import proofs.«01_k».proof.Proof.Gen.ReferenceIdeal.Run
public import proofs.«01_k».proof.Proof.Run
public import proofs.«01_k».proof.Proof.Spec
public import proofs.«01_k».proof.Proof.Precond
public import proofs.«01_k».proof.Proof.Tail
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference, which uses no semaphore, runs, leaves its arguments as they were and every counter at zero. -/
theorem reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- Over extended reals the kernel and the reference end with the same result array: each ends with `Spec.result` of
    its arguments (`Value.run` and `Value.final` for the kernel, `Value.run` and `Spec.ref_result` for the reference). -/
theorem algebraic : Cert.algebraic_KernelIdeal_ReferenceIdeal_pre_well_posed
    (hKernelIdeal := Cert.KernelIdeal.Gen.facts) (hReferenceIdeal := Cert.ReferenceIdeal.Gen.facts)
    (hPre_well_posed := Cert.Pre_well_posed.Gen.facts) := by
  intro m g m' g' hpre hagree
  refine ⟨_, (θ_run Cert.KernelIdeal.defs _ _).mono (fun _ h => h) (Cert.KernelIdeal.Value.run (F := Ideal) m g), ?_⟩
  refine (θ_run Cert.ReferenceIdeal.defs _ _).mono (fun _ h c => ⟨(h c).1.trans ?_, (h c).2⟩)
    (Cert.ReferenceIdeal.Value.run (F := Ideal) m' g')
  obtain ⟨he, hI, hT⟩ := Cert.Spec.well_posed _ _ _ _ _ _ _ _ _ _ _ _ _ (hpre c)
  obtain ⟨e0, e1, e2, e3, e4, e5, e6, e7, e8, e9, e10, e11, -⟩ := hagree c
  refine (Cert.Spec.ref_result _).trans (Eq.trans ?_ (Cert.KernelIdeal.Value.final m g c he hI hT).symm)
  exact congr (congr (congr (congr (congr (congr (congr (congr (congr (congr (congr (congrArg Cert.Spec.result
    e0) e1) e2) e3) e4) e5) e6) e7) e8) e9) e10) e11

/-- Everything claimed: the three programs' frames, the idealization's relation, and the equal results. -/
theorem claim : Cert.Claim :=
  ⟨Cert.Kernel.Gen.facts, Cert.KernelIdeal.Gen.facts, Cert.ReferenceIdeal.Gen.facts, Cert.Pre_well_posed.Gen.facts,
    fun m g _ => Cert.Kernel.Gen.frame m g, fun m g _ => Cert.KernelIdeal.Gen.frame m g,
    fun m g _ => Cert.KernelIdeal.Gen.frame m g, reference, fun m g _ => reference m g trivial, trivial, algebraic⟩

end Cert.Proof

end
